-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gn_weight_finite [hPre_gn_weight_finite : Cert.Pre_gn_weight_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gn_weight_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gn_weight_finite [hPre_gn_weight_finite : Cert.Pre_gn_weight_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gn_weight_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gn_weight_finite [hKernelIdeal : Cert.KernelIdeal.Facts] [hPre_gn_weight_finite : Cert.Pre_gn_weight_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gn_weight_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gn_weight_finite [hReferenceIdeal : Cert.ReferenceIdeal.Facts] [hPre_gn_weight_finite : Cert.Pre_gn_weight_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gn_weight_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x36DEE95C#32 ((1 / 150528 : ℝ) : EReal)

def algebraic_KernelIdeal_ReferenceIdeal_pre_gn_weight_finite [hKernelIdeal : Cert.KernelIdeal.Facts] [hReferenceIdeal : Cert.ReferenceIdeal.Facts] [hPre_gn_weight_finite : Cert.Pre_gn_weight_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gn_weight_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gn_weight_finite : Cert.Pre_gn_weight_finite.Facts),
    quiescent_Kernel (hKernel := hKernel)
    ∧ quiescent_KernelIdeal (hKernelIdeal := hKernelIdeal)
    ∧ quiescent_KernelIdeal_pre_gn_weight_finite (hKernelIdeal := hKernelIdeal) (hPre_gn_weight_finite := hPre_gn_weight_finite)
    ∧ quiescent_ReferenceIdeal (hReferenceIdeal := hReferenceIdeal)
    ∧ quiescent_ReferenceIdeal_pre_gn_weight_finite (hReferenceIdeal := hReferenceIdeal) (hPre_gn_weight_finite := hPre_gn_weight_finite)
    ∧ preserves_Kernel_KernelIdeal
    ∧ algebraic_KernelIdeal_ReferenceIdeal_pre_gn_weight_finite (hKernelIdeal := hKernelIdeal) (hReferenceIdeal := hReferenceIdeal) (hPre_gn_weight_finite := hPre_gn_weight_finite)
-- ==== Pre_gn_weight_finite.lean ====
abbrev S1x96x224x224 : Shape := ⟨4, ![1, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S_ : Shape := ⟨0, ![]⟩

class Facts : Prop where
  bcast_S_S96 : S_.BroadcastsInDim S96 (![] : Fin 0 → Fin S96.rank)

variable [Facts]

def fn {F : FTy → Type} [FloatOps F] (main_arg0 : FVec F S1x96x224x224 .f32) (main_arg1 : FVec F S96 .f32) (main_arg2 : FVec F S96 .f32) (main_arg3 : FVec F S192x96 .f32) (main_arg4 : FVec F S192 .f32) (main_arg5 : FVec F S96x192 .f32) (main_arg6 : FVec F S96 .f32) : IVec S96 1 :=
  let main_v0 : FVec F S96 .f32 := Host.absf main_arg1
  let main_cst : FVec F S_ .f32 := constant S_ .f32 0x7F800000#32
  let main_v1 : FVec F S96 .f32 := broadcastInDim S96 ![] bcast_S_S96 main_cst
  let main_v2 : IVec S96 1 := cmpf .olt main_v0 main_v1
  main_v2
-- ==== Kernel.lean ====
abbrev S1x96x224x224 : Shape := ⟨4, ![1, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S224x224 : Shape := ⟨2, ![224, 224]⟩
abbrev S96x96 : Shape := ⟨2, ![96, 96]⟩
abbrev S96x224x224 : Shape := ⟨3, ![96, 224, 224]⟩
abbrev S_ : Shape := ⟨0, ![]⟩
abbrev S96x224x226 : Shape := ⟨3, ![96, 224, 226]⟩
abbrev S1x96x226 : Shape := ⟨3, ![1, 96, 226]⟩
abbrev S96x13x226 : Shape := ⟨3, ![96, 13, 226]⟩
abbrev S13x96x226 : Shape := ⟨3, ![13, 96, 226]⟩
abbrev S14x96x226 : Shape := ⟨3, ![14, 96, 226]⟩
abbrev S96x1 : Shape := ⟨2, ![96, 1]⟩
abbrev S8x224x224 : Shape := ⟨3, ![8, 224, 224]⟩
abbrev S8x1 : Shape := ⟨2, ![8, 1]⟩
abbrev S8x224 : Shape := ⟨2, ![8, 224]⟩
abbrev S8 : Shape := ⟨1, ![8]⟩
abbrev S1x224x224 : Shape := ⟨3, ![1, 224, 224]⟩
abbrev S192x1 : Shape := ⟨2, ![192, 1]⟩
abbrev S96x16x226 : Shape := ⟨3, ![96, 16, 226]⟩
abbrev S16x224 : Shape := ⟨2, ![16, 224]⟩
abbrev S96x16x224 : Shape := ⟨3, ![96, 16, 224]⟩
abbrev S96x226 : Shape := ⟨2, ![96, 226]⟩
abbrev S96x1x226 : Shape := ⟨3, ![96, 1, 226]⟩
abbrev S96x15x226 : Shape := ⟨3, ![96, 15, 226]⟩
abbrev S1 : Shape := ⟨1, ![1]⟩
abbrev S1x1x1 : Shape := ⟨3, ![1, 1, 1]⟩
abbrev S16x226 : Shape := ⟨2, ![16, 226]⟩
abbrev S96x2x226 : Shape := ⟨3, ![96, 2, 226]⟩
abbrev S2x226 : Shape := ⟨2, ![2, 226]⟩
abbrev S18x226 : Shape := ⟨2, ![18, 226]⟩
abbrev S1x16x224 : Shape := ⟨3, ![1, 16, 224]⟩
abbrev S96x1x1 : Shape := ⟨3, ![96, 1, 1]⟩
abbrev S96x3584 : Shape := ⟨2, ![96, 3584]⟩
abbrev S192x3584 : Shape := ⟨2, ![192, 3584]⟩

abbrev nBuf : Space → Nat
  | .hbm => 31
  | .vmem => 29
  | .smem => 0
  | _ => 0

abbrev bufTy : (tb : Table) → Fin (tcTables nBuf tb) → BufTy
  | .hbm, ⟨0, _⟩ => ⟨S1x96x224x224, .f32⟩
  | .hbm, ⟨1, _⟩ => ⟨S96, .f32⟩
  | .hbm, ⟨2, _⟩ => ⟨S96, .f32⟩
  | .hbm, ⟨3, _⟩ => ⟨S192x96, .f32⟩
  | .hbm, ⟨4, _⟩ => ⟨S192, .f32⟩
  | .hbm, ⟨5, _⟩ => ⟨S96x192, .f32⟩
  | .hbm, ⟨6, _⟩ => ⟨S96, .f32⟩
  | .hbm, ⟨7, _⟩ => ⟨S224x224, .f32⟩
  | .hbm, ⟨8, _⟩ => ⟨S224x224, .f32⟩
  | .hbm, ⟨9, _⟩ => ⟨S96x96, .f32⟩
  | .hbm, ⟨10, _⟩ => ⟨S96x224x224, .f32⟩
  | .hbm, ⟨11, _⟩ => ⟨S_, .i32⟩
  | .hbm, ⟨12, _⟩ => ⟨S_, .f32⟩
  | .hbm, ⟨13, _⟩ => ⟨S96x224x226, .f32⟩
  | .hbm, ⟨14, _⟩ => ⟨S_, .f32⟩
  | .hbm, ⟨15, _⟩ => ⟨S1x96x226, .f32⟩
  | .hbm, ⟨16, _⟩ => ⟨S96x13x226, .f32⟩
  | .hbm, ⟨17, _⟩ => ⟨S13x96x226, .f32⟩
  | .hbm, ⟨18, _⟩ => ⟨S14x96x226, .f32⟩
  | .hbm, ⟨19, _⟩ => ⟨S96x13x226, .f32⟩
  | .hbm, ⟨20, _⟩ => ⟨S13x96x226, .f32⟩
  | .hbm, ⟨21, _⟩ => ⟨S14x96x226, .f32⟩
  | .hbm, ⟨22, _⟩ => ⟨S224x224, .f32⟩
  | .hbm, ⟨23, _⟩ => ⟨S96x1, .f32⟩
  | .hbm, ⟨24, _⟩ => ⟨S96x1, .f32⟩
  | .hbm, ⟨25, _⟩ => ⟨S96x1, .f32⟩
  | .hbm, ⟨26, _⟩ => ⟨S96x1, .f32⟩
  | .hbm, ⟨27, _⟩ => ⟨S192x1, .f32⟩
  | .hbm, ⟨28, _⟩ => ⟨S96x1, .f32⟩
  | .hbm, ⟨29, _⟩ => ⟨S96x224x224, .f32⟩
  | .hbm, ⟨30, _⟩ => ⟨S1x96x224x224, .f32⟩
  | .local _ .vmem, ⟨0, _⟩ => ⟨S8x224x224, .f32⟩
  | .local _ .vmem, ⟨1, _⟩ => ⟨S8x224x224, .f32⟩
  | .local _ .vmem, ⟨2, _⟩ => ⟨S224x224, .f32⟩
  | .local _ .vmem, ⟨3, _⟩ => ⟨S224x224, .f32⟩
  | .local _ .vmem, ⟨4, _⟩ => ⟨S224x224, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S96x16x226, .f32⟩
  | .local _ .vmem, ⟨10, _⟩ => ⟨S96x16x226, .f32⟩
  | .local _ .vmem, ⟨11, _⟩ => ⟨S1x96x226, .f32⟩
  | .local _ .vmem, ⟨12, _⟩ => ⟨S1x96x226, .f32⟩
  | .local _ .vmem, ⟨13, _⟩ => ⟨S1x96x226, .f32⟩
  | .local _ .vmem, ⟨14, _⟩ => ⟨S1x96x226, .f32⟩
  | .local _ .vmem, ⟨15, _⟩ => ⟨S16x224, .f32⟩
  | .local _ .vmem, ⟨16, _⟩ => ⟨S16x224, .f32⟩
  | .local _ .vmem, ⟨17, _⟩ => ⟨S224x224, .f32⟩
  | .local _ .vmem, ⟨18, _⟩ => ⟨S96x1, .f32⟩
  | .local _ .vmem, ⟨19, _⟩ => ⟨S96x1, .f32⟩
  | .local _ .vmem, ⟨20, _⟩ => ⟨S96x96, .f32⟩
  | .local _ .vmem, ⟨21, _⟩ => ⟨S96x1, .f32⟩
  | .local _ .vmem, ⟨22, _⟩ => ⟨S96x1, .f32⟩
  | .local _ .vmem, ⟨23, _⟩ => ⟨S192x96, .f32⟩
  | .local _ .vmem, ⟨24, _⟩ => ⟨S192x1, .f32⟩
  | .local _ .vmem, ⟨25, _⟩ => ⟨S96x192, .f32⟩
  | .local _ .vmem, ⟨26, _⟩ => ⟨S96x1, .f32⟩
  | .local _ .vmem, ⟨27, _⟩ => ⟨S96x16x224, .f32⟩
  | .local _ .vmem, ⟨28, _⟩ => ⟨S96x16x224, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_cst_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg14_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem14_1 : DmaSem sig := 28

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_29 : BitVec 32 := 0#32
  let v70 : BitVec 1 := Scalar.cmpi .ne v69 c0_i32_29
  v70

def k0_cond2 (i : grid0.Coords) : BitVec 1 :=
  let arg0 : BitVec 32 := BitVec.ofNat 32 (i 0).val
  let c0_i32_30 : BitVec 32 := 0#32
  let v71 : BitVec 1 := Scalar.cmpi .sgt arg0 c0_i32_30
  let v72 : BitVec 32 := Scalar.extui v71
  let c0_i32_31 : BitVec 32 := 0#32
  let v73 : BitVec 1 := Scalar.cmpi .ne v72 c0_i32_31
  v73

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![14], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S96x16x226 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x96x226 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x96x226 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S224x224 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S96x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S96x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S192x96 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S192x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S96x192 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S96x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S96x16x224 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "inv_n" => some ((1 / 150528 : ℝ) : EReal)
  | _ => none
-- ==== ReferenceIdeal.lean ====
abbrev S1x96x224x224 : Shape := ⟨4, ![1, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S112 : Shape := ⟨1, ![112]⟩
abbrev S_ : Shape := ⟨0, ![]⟩
abbrev S224 : Shape := ⟨1, ![224]⟩
abbrev S1x112 : Shape := ⟨2, ![1, 112]⟩
abbrev S224x1 : Shape := ⟨2, ![224, 1]⟩
abbrev S224x112 : Shape := ⟨2, ![224, 112]⟩
abbrev S112x1x96x224 : Shape := ⟨4, ![112, 1, 96, 224]⟩
abbrev S1x96x112x224 : Shape := ⟨4, ![1, 96, 112, 224]⟩
abbrev S1x96x112x112 : Shape := ⟨4, ![1, 96, 112, 112]⟩
abbrev S1x224 : Shape := ⟨2, ![1, 224]⟩
abbrev S112x1 : Shape := ⟨2, ![112, 1]⟩
abbrev S112x224 : Shape := ⟨2, ![112, 224]⟩
abbrev S224x1x96x112 : Shape := ⟨4, ![224, 1, 96, 112]⟩
abbrev S1x96x224x112 : Shape := ⟨4, ![1, 96, 224, 112]⟩
abbrev S1x224x224 : Shape := ⟨3, ![1, 224, 224]⟩
abbrev S1x1x224x224 : Shape := ⟨4, ![1, 1, 224, 224]⟩
abbrev S1x50176 : Shape := ⟨2, ![1, 50176]⟩
abbrev S1 : Shape := ⟨1, ![1]⟩
abbrev S1x1x1x1 : Shape := ⟨4, ![1, 1, 1, 1]⟩
abbrev S1x96x226x226 : Shape := ⟨4, ![1, 96, 226, 226]⟩
abbrev S1x96x1x224x224 : Shape := ⟨5, ![1, 96, 1, 224, 224]⟩
abbrev S1x96x9x224x224 : Shape := ⟨5, ![1, 96, 9, 224, 224]⟩
abbrev S1x96x9x50176 : Shape := ⟨4, ![1, 96, 9, 50176]⟩
abbrev S1x96x50176 : Shape := ⟨3, ![1, 96, 50176]⟩
abbrev S1x1x50176 : Shape := ⟨3, ![1, 1, 50176]⟩
abbrev S1x9x50176 : Shape := ⟨3, ![1, 9, 50176]⟩
abbrev S1x1x9x50176 : Shape := ⟨4, ![1, 1, 9, 50176]⟩
abbrev S1x50176x9 : Shape := ⟨3, ![1, 50176, 9]⟩
abbrev S9 : Shape := ⟨1, ![9]⟩
abbrev S1x1x9 : Shape := ⟨3, ![1, 1, 9]⟩
abbrev S1x50176x1 : Shape := ⟨3, ![1, 50176, 1]⟩
abbrev S1x50176x9x96 : Shape := ⟨4, ![1, 50176, 9, 96]⟩
abbrev S1x50176x9x1 : Shape := ⟨4, ![1, 50176, 9, 1]⟩
abbrev S50176x9x1 : Shape := ⟨3, ![50176, 9, 1]⟩
abbrev S1x1x1 : Shape := ⟨3, ![1, 1, 1]⟩
abbrev S50176x9 : Shape := ⟨2, ![50176, 9]⟩
abbrev S1x50176x96 : Shape := ⟨3, ![1, 50176, 96]⟩
abbrev S1x32x3x224x224 : Shape := ⟨5, ![1, 32, 3, 224, 224]⟩
abbrev S1x32 : Shape := ⟨2, ![1, 32]⟩
abbrev S1x32x1x1x1 : Shape := ⟨5, ![1, 32, 1, 1, 1]⟩
abbrev S1x96x1x1 : Shape := ⟨4, ![1, 96, 1, 1]⟩
abbrev S1x224x224x192 : Shape := ⟨4, ![1, 224, 224, 192]⟩
abbrev S1x192x224x224 : Shape := ⟨4, ![1, 192, 224, 224]⟩
abbrev S1x192x1x1 : Shape := ⟨4, ![1, 192, 1, 1]⟩
abbrev S1x224x224x96 : Shape := ⟨4, ![1, 224, 224, 96]⟩

abbrev nBuf : Space → Nat
  | .hbm => 476
  | .vmem => 0
  | .smem => 0
  | _ => 0

abbrev hbmTy0_0 (i : Nat) : BufTy := match i % 128 with
  | 0 => ⟨S1x96x224x224, .f32⟩
  | 1 => ⟨S96, .f32⟩
  | 2 => ⟨S96, .f32⟩
  | 3 => ⟨S192x96, .f32⟩
  | 4 => ⟨S192, .f32⟩
  | 5 => ⟨S96x192, .f32⟩
  | 6 => ⟨S96, .f32⟩
  | 7 => ⟨S112, .f32⟩
  | 8 => ⟨S_, .f32⟩
  | 9 => ⟨S112, .f32⟩
  | 10 => ⟨S112, .f32⟩
  | 11 => ⟨S_, .f32⟩
  | 12 => ⟨S112, .f32⟩
  | 13 => ⟨S112, .f32⟩
  | 14 => ⟨S_, .f32⟩
  | 15 => ⟨S112, .f32⟩
  | 16 => ⟨S112, .f32⟩
  | 17 => ⟨S_, .f32⟩
  | 18 => ⟨S112, .f32⟩
  | 19 => ⟨S112, .f32⟩
  | 20 => ⟨S224, .f32⟩
  | 21 => ⟨S1x112, .f32⟩
  | 22 => ⟨S224x1, .f32⟩
  | 23 => ⟨S224x112, .f32⟩
  | 24 => ⟨S224x112, .f32⟩
  | 25 => ⟨S224x112, .f32⟩
  | 26 => ⟨S224x112, .f32⟩
  | 27 => ⟨S_, .f32⟩
  | 28 => ⟨S224x112, .f32⟩
  | 29 => ⟨S224x112, .f32⟩
  | 30 => ⟨S224x112, .f32⟩
  | 31 => ⟨S_, .f32⟩
  | 32 => ⟨S224x112, .f32⟩
  | 33 => ⟨S224x112, .f32⟩
  | 34 => ⟨S_, .f32⟩
  | 35 => ⟨S224x112, .f32⟩
  | 36 => ⟨S224x112, .f32⟩
  | 37 => ⟨S_, .f32⟩
  | 38 => ⟨S112, .f32⟩
  | 39 => ⟨S1x112, .f32⟩
  | 40 => ⟨S1x112, .f32⟩
  | 41 => ⟨S_, .f32⟩
  | 42 => ⟨S1x112, .f32⟩
  | 43 => ⟨S1x112, .i1⟩
  | 44 => ⟨S_, .f32⟩
  | 45 => ⟨S1x112, .f32⟩
  | 46 => ⟨S1x112, .i1⟩
  | 47 => ⟨S_, .i32⟩
  | 48 => ⟨S_, .f32⟩
  | 49 => ⟨S1x112, .f32⟩
  | 50 => ⟨S1x112, .f32⟩
  | 51 => ⟨S224x112, .f32⟩
  | 52 => ⟨S224x112, .f32⟩
  | 53 => ⟨S_, .i32⟩
  | 54 => ⟨S_, .f32⟩
  | 55 => ⟨S224x112, .i1⟩
  | 56 => ⟨S224x112, .f32⟩
  | 57 => ⟨S224x112, .f32⟩
  | 58 => ⟨S_, .f32⟩
  | 59 => ⟨S112, .f32⟩
  | 60 => ⟨S112, .i1⟩
  | 61 => ⟨S_, .f32⟩
  | 62 => ⟨S112, .f32⟩
  | 63 => ⟨S112, .i1⟩
  | 64 => ⟨S112, .i1⟩
  | 65 => ⟨S1x112, .i1⟩
  | 66 => ⟨S_, .i32⟩
  | 67 => ⟨S_, .f32⟩
  | 68 => ⟨S224x112, .i1⟩
  | 69 => ⟨S224x112, .f32⟩
  | 70 => ⟨S224x112, .f32⟩
  | 71 => ⟨S112x1x96x224, .f32⟩
  | 72 => ⟨S1x96x112x224, .f32⟩
  | 73 => ⟨S112, .f32⟩
  | 74 => ⟨S_, .f32⟩
  | 75 => ⟨S112, .f32⟩
  | 76 => ⟨S112, .f32⟩
  | 77 => ⟨S_, .f32⟩
  | 78 => ⟨S112, .f32⟩
  | 79 => ⟨S112, .f32⟩
  | 80 => ⟨S_, .f32⟩
  | 81 => ⟨S112, .f32⟩
  | 82 => ⟨S112, .f32⟩
  | 83 => ⟨S_, .f32⟩
  | 84 => ⟨S112, .f32⟩
  | 85 => ⟨S112, .f32⟩
  | 86 => ⟨S224, .f32⟩
  | 87 => ⟨S1x112, .f32⟩
  | 88 => ⟨S224x1, .f32⟩
  | 89 => ⟨S224x112, .f32⟩
  | 90 => ⟨S224x112, .f32⟩
  | 91 => ⟨S224x112, .f32⟩
  | 92 => ⟨S224x112, .f32⟩
  | 93 => ⟨S_, .f32⟩
  | 94 => ⟨S224x112, .f32⟩
  | 95 => ⟨S224x112, .f32⟩
  | 96 => ⟨S224x112, .f32⟩
  | 97 => ⟨S_, .f32⟩
  | 98 => ⟨S224x112, .f32⟩
  | 99 => ⟨S224x112, .f32⟩
  | 100 => ⟨S_, .f32⟩
  | 101 => ⟨S224x112, .f32⟩
  | 102 => ⟨S224x112, .f32⟩
  | 103 => ⟨S_, .f32⟩
  | 104 => ⟨S112, .f32⟩
  | 105 => ⟨S1x112, .f32⟩
  | 106 => ⟨S1x112, .f32⟩
  | 107 => ⟨S_, .f32⟩
  | 108 => ⟨S1x112, .f32⟩
  | 109 => ⟨S1x112, .i1⟩
  | 110 => ⟨S_, .f32⟩
  | 111 => ⟨S1x112, .f32⟩
  | 112 => ⟨S1x112, .i1⟩
  | 113 => ⟨S_, .i32⟩
  | 114 => ⟨S_, .f32⟩
  | 115 => ⟨S1x112, .f32⟩
  | 116 => ⟨S1x112, .f32⟩
  | 117 => ⟨S224x112, .f32⟩
  | 118 => ⟨S224x112, .f32⟩
  | 119 => ⟨S_, .i32⟩
  | 120 => ⟨S_, .f32⟩
  | 121 => ⟨S224x112, .i1⟩
  | 122 => ⟨S224x112, .f32⟩
  | 123 => ⟨S224x112, .f32⟩
  | 124 => ⟨S_, .f32⟩
  | 125 => ⟨S112, .f32⟩
  | 126 => ⟨S112, .i1⟩
  | 127 => ⟨S_, .f32⟩
  | _ => ⟨S1x96x224x224, .f32⟩

abbrev hbmTy0_1 (i : Nat) : BufTy := match i % 128 with
  | 0 => ⟨S112, .f32⟩
  | 1 => ⟨S112, .i1⟩
  | 2 => ⟨S112, .i1⟩
  | 3 => ⟨S1x112, .i1⟩
  | 4 => ⟨S_, .i32⟩
  | 5 => ⟨S_, .f32⟩
  | 6 => ⟨S224x112, .i1⟩
  | 7 => ⟨S224x112, .f32⟩
  | 8 => ⟨S224x112, .f32⟩
  | 9 => ⟨S1x96x112x112, .f32⟩
  | 10 => ⟨S224, .f32⟩
  | 11 => ⟨S_, .f32⟩
  | 12 => ⟨S224, .f32⟩
  | 13 => ⟨S224, .f32⟩
  | 14 => ⟨S_, .f32⟩
  | 15 => ⟨S224, .f32⟩
  | 16 => ⟨S224, .f32⟩
  | 17 => ⟨S_, .f32⟩
  | 18 => ⟨S224, .f32⟩
  | 19 => ⟨S224, .f32⟩
  | 20 => ⟨S_, .f32⟩
  | 21 => ⟨S224, .f32⟩
  | 22 => ⟨S224, .f32⟩
  | 23 => ⟨S112, .f32⟩
  | 24 => ⟨S1x224, .f32⟩
  | 25 => ⟨S112x1, .f32⟩
  | 26 => ⟨S112x224, .f32⟩
  | 27 => ⟨S112x224, .f32⟩
  | 28 => ⟨S112x224, .f32⟩
  | 29 => ⟨S112x224, .f32⟩
  | 30 => ⟨S_, .f32⟩
  | 31 => ⟨S112x224, .f32⟩
  | 32 => ⟨S112x224, .f32⟩
  | 33 => ⟨S112x224, .f32⟩
  | 34 => ⟨S_, .f32⟩
  | 35 => ⟨S112x224, .f32⟩
  | 36 => ⟨S112x224, .f32⟩
  | 37 => ⟨S_, .f32⟩
  | 38 => ⟨S112x224, .f32⟩
  | 39 => ⟨S112x224, .f32⟩
  | 40 => ⟨S_, .f32⟩
  | 41 => ⟨S224, .f32⟩
  | 42 => ⟨S1x224, .f32⟩
  | 43 => ⟨S1x224, .f32⟩
  | 44 => ⟨S_, .f32⟩
  | 45 => ⟨S1x224, .f32⟩
  | 46 => ⟨S1x224, .i1⟩
  | 47 => ⟨S_, .f32⟩
  | 48 => ⟨S1x224, .f32⟩
  | 49 => ⟨S1x224, .i1⟩
  | 50 => ⟨S_, .i32⟩
  | 51 => ⟨S_, .f32⟩
  | 52 => ⟨S1x224, .f32⟩
  | 53 => ⟨S1x224, .f32⟩
  | 54 => ⟨S112x224, .f32⟩
  | 55 => ⟨S112x224, .f32⟩
  | 56 => ⟨S_, .i32⟩
  | 57 => ⟨S_, .f32⟩
  | 58 => ⟨S112x224, .i1⟩
  | 59 => ⟨S112x224, .f32⟩
  | 60 => ⟨S112x224, .f32⟩
  | 61 => ⟨S_, .f32⟩
  | 62 => ⟨S224, .f32⟩
  | 63 => ⟨S224, .i1⟩
  | 64 => ⟨S_, .f32⟩
  | 65 => ⟨S224, .f32⟩
  | 66 => ⟨S224, .i1⟩
  | 67 => ⟨S224, .i1⟩
  | 68 => ⟨S1x224, .i1⟩
  | 69 => ⟨S_, .i32⟩
  | 70 => ⟨S_, .f32⟩
  | 71 => ⟨S112x224, .i1⟩
  | 72 => ⟨S112x224, .f32⟩
  | 73 => ⟨S112x224, .f32⟩
  | 74 => ⟨S224x1x96x112, .f32⟩
  | 75 => ⟨S1x96x224x112, .f32⟩
  | 76 => ⟨S224, .f32⟩
  | 77 => ⟨S_, .f32⟩
  | 78 => ⟨S224, .f32⟩
  | 79 => ⟨S224, .f32⟩
  | 80 => ⟨S_, .f32⟩
  | 81 => ⟨S224, .f32⟩
  | 82 => ⟨S224, .f32⟩
  | 83 => ⟨S_, .f32⟩
  | 84 => ⟨S224, .f32⟩
  | 85 => ⟨S224, .f32⟩
  | 86 => ⟨S_, .f32⟩
  | 87 => ⟨S224, .f32⟩
  | 88 => ⟨S224, .f32⟩
  | 89 => ⟨S112, .f32⟩
  | 90 => ⟨S1x224, .f32⟩
  | 91 => ⟨S112x1, .f32⟩
  | 92 => ⟨S112x224, .f32⟩
  | 93 => ⟨S112x224, .f32⟩
  | 94 => ⟨S112x224, .f32⟩
  | 95 => ⟨S112x224, .f32⟩
  | 96 => ⟨S_, .f32⟩
  | 97 => ⟨S112x224, .f32⟩
  | 98 => ⟨S112x224, .f32⟩
  | 99 => ⟨S112x224, .f32⟩
  | 100 => ⟨S_, .f32⟩
  | 101 => ⟨S112x224, .f32⟩
  | 102 => ⟨S112x224, .f32⟩
  | 103 => ⟨S_, .f32⟩
  | 104 => ⟨S112x224, .f32⟩
  | 105 => ⟨S112x224, .f32⟩
  | 106 => ⟨S_, .f32⟩
  | 107 => ⟨S224, .f32⟩
  | 108 => ⟨S1x224, .f32⟩
  | 109 => ⟨S1x224, .f32⟩
  | 110 => ⟨S_, .f32⟩
  | 111 => ⟨S1x224, .f32⟩
  | 112 => ⟨S1x224, .i1⟩
  | 113 => ⟨S_, .f32⟩
  | 114 => ⟨S1x224, .f32⟩
  | 115 => ⟨S1x224, .i1⟩
  | 116 => ⟨S_, .i32⟩
  | 117 => ⟨S_, .f32⟩
  | 118 => ⟨S1x224, .f32⟩
  | 119 => ⟨S1x224, .f32⟩
  | 120 => ⟨S112x224, .f32⟩
  | 121 => ⟨S112x224, .f32⟩
  | 122 => ⟨S_, .i32⟩
  | 123 => ⟨S_, .f32⟩
  | 124 => ⟨S112x224, .i1⟩
  | 125 => ⟨S112x224, .f32⟩
  | 126 => ⟨S112x224, .f32⟩
  | 127 => ⟨S_, .f32⟩
  | _ => ⟨S1x96x224x224, .f32⟩

abbrev hbmTy0_2 (i : Nat) : BufTy := match i % 128 with
  | 0 => ⟨S224, .f32⟩
  | 1 => ⟨S224, .i1⟩
  | 2 => ⟨S_, .f32⟩
  | 3 => ⟨S224, .f32⟩
  | 4 => ⟨S224, .i1⟩
  | 5 => ⟨S224, .i1⟩
  | 6 => ⟨S1x224, .i1⟩
  | 7 => ⟨S_, .i32⟩
  | 8 => ⟨S_, .f32⟩
  | 9 => ⟨S112x224, .i1⟩
  | 10 => ⟨S112x224, .f32⟩
  | 11 => ⟨S112x224, .f32⟩
  | 12 => ⟨S1x96x224x224, .f32⟩
  | 13 => ⟨S1x96x224x224, .f32⟩
  | 14 => ⟨S1x96x224x224, .f32⟩
  | 15 => ⟨S_, .f32⟩
  | 16 => ⟨S1x224x224, .f32⟩
  | 17 => ⟨S1x1x224x224, .f32⟩
  | 18 => ⟨S1x50176, .f32⟩
  | 19 => ⟨S_, .f32⟩
  | 20 => ⟨S1, .f32⟩
  | 21 => ⟨S1x1x1x1, .f32⟩
  | 22 => ⟨S1x50176, .f32⟩
  | 23 => ⟨S_, .f32⟩
  | 24 => ⟨S1, .f32⟩
  | 25 => ⟨S1x1x1x1, .f32⟩
  | 26 => ⟨S1x1x224x224, .f32⟩
  | 27 => ⟨S1x1x224x224, .f32⟩
  | 28 => ⟨S1x1x1x1, .f32⟩
  | 29 => ⟨S_, .f32⟩
  | 30 => ⟨S1x1x1x1, .f32⟩
  | 31 => ⟨S1x1x1x1, .f32⟩
  | 32 => ⟨S1x1x224x224, .f32⟩
  | 33 => ⟨S1x1x224x224, .f32⟩
  | 34 => ⟨S1x1x224x224, .f32⟩
  | 35 => ⟨S_, .f32⟩
  | 36 => ⟨S1x1x224x224, .f32⟩
  | 37 => ⟨S1x1x224x224, .i1⟩
  | 38 => ⟨S1x1x224x224, .f32⟩
  | 39 => ⟨S_, .f32⟩
  | 40 => ⟨S1x1x224x224, .f32⟩
  | 41 => ⟨S1x1x224x224, .f32⟩
  | 42 => ⟨S1x1x224x224, .f32⟩
  | 43 => ⟨S_, .i32⟩
  | 44 => ⟨S_, .f32⟩
  | 45 => ⟨S1x1x224x224, .f32⟩
  | 46 => ⟨S1x1x224x224, .f32⟩
  | 47 => ⟨S1x1x224x224, .f32⟩
  | 48 => ⟨S_, .f32⟩
  | 49 => ⟨S1x1x224x224, .f32⟩
  | 50 => ⟨S1x1x224x224, .f32⟩
  | 51 => ⟨S1x50176, .f32⟩
  | 52 => ⟨S_, .i32⟩
  | 53 => ⟨S_, .f32⟩
  | 54 => ⟨S1x96x226x226, .f32⟩
  | 55 => ⟨S1x96x224x224, .f32⟩
  | 56 => ⟨S1x96x224x224, .f32⟩
  | 57 => ⟨S1x96x224x224, .f32⟩
  | 58 => ⟨S1x96x224x224, .f32⟩
  | 59 => ⟨S1x96x224x224, .f32⟩
  | 60 => ⟨S1x96x224x224, .f32⟩
  | 61 => ⟨S1x96x224x224, .f32⟩
  | 62 => ⟨S1x96x224x224, .f32⟩
  | 63 => ⟨S1x96x224x224, .f32⟩
  | 64 => ⟨S1x96x1x224x224, .f32⟩
  | 65 => ⟨S1x96x1x224x224, .f32⟩
  | 66 => ⟨S1x96x1x224x224, .f32⟩
  | 67 => ⟨S1x96x1x224x224, .f32⟩
  | 68 => ⟨S1x96x1x224x224, .f32⟩
  | 69 => ⟨S1x96x1x224x224, .f32⟩
  | 70 => ⟨S1x96x1x224x224, .f32⟩
  | 71 => ⟨S1x96x1x224x224, .f32⟩
  | 72 => ⟨S1x96x1x224x224, .f32⟩
  | 73 => ⟨S1x96x9x224x224, .f32⟩
  | 74 => ⟨S1x96x9x50176, .f32⟩
  | 75 => ⟨S1x96x50176, .f32⟩
  | 76 => ⟨S1x96x50176, .f32⟩
  | 77 => ⟨S_, .f32⟩
  | 78 => ⟨S1x50176, .f32⟩
  | 79 => ⟨S1x1x50176, .f32⟩
  | 80 => ⟨S1x1x50176, .f32⟩
  | 81 => ⟨S_, .f32⟩
  | 82 => ⟨S_, .f32⟩
  | 83 => ⟨S1x1x50176, .f32⟩
  | 84 => ⟨S1x1x50176, .f32⟩
  | 85 => ⟨S1x96x50176, .f32⟩
  | 86 => ⟨S1x96x50176, .f32⟩
  | 87 => ⟨S1x96x9x50176, .f32⟩
  | 88 => ⟨S_, .f32⟩
  | 89 => ⟨S1x9x50176, .f32⟩
  | 90 => ⟨S1x1x9x50176, .f32⟩
  | 91 => ⟨S1x1x9x50176, .f32⟩
  | 92 => ⟨S_, .f32⟩
  | 93 => ⟨S_, .f32⟩
  | 94 => ⟨S1x1x9x50176, .f32⟩
  | 95 => ⟨S1x1x9x50176, .f32⟩
  | 96 => ⟨S1x96x9x50176, .f32⟩
  | 97 => ⟨S1x96x9x50176, .f32⟩
  | 98 => ⟨S1x50176x9, .f32⟩
  | 99 => ⟨S1x9x50176, .f32⟩
  | 100 => ⟨S1x50176x9, .f32⟩
  | 101 => ⟨S1x50176x9, .f32⟩
  | 102 => ⟨S1x50176x9, .i32⟩
  | 103 => ⟨S1x50176, .i32⟩
  | 104 => ⟨S_, .i32⟩
  | 105 => ⟨S1x50176, .i32⟩
  | 106 => ⟨S1x50176, .i32⟩
  | 107 => ⟨S9, .i32⟩
  | 108 => ⟨S1x1x9, .i32⟩
  | 109 => ⟨S1x50176x1, .i32⟩
  | 110 => ⟨S1x50176x9, .i32⟩
  | 111 => ⟨S1x50176x9, .i32⟩
  | 112 => ⟨S1x50176x9, .i1⟩
  | 113 => ⟨S1x50176x9, .f32⟩
  | 114 => ⟨S1x50176x9, .f32⟩
  | 115 => ⟨S1x50176x9, .f32⟩
  | 116 => ⟨S_, .f32⟩
  | 117 => ⟨S1x50176, .f32⟩
  | 118 => ⟨S1x50176x1, .f32⟩
  | 119 => ⟨S1x50176x9, .f32⟩
  | 120 => ⟨S1x50176x9, .f32⟩
  | 121 => ⟨S1x50176x9x96, .f32⟩
  | 122 => ⟨S1x50176x9x1, .i32⟩
  | 123 => ⟨S_, .i32⟩
  | 124 => ⟨S1x50176x9x1, .i32⟩
  | 125 => ⟨S1x50176x9x1, .i1⟩
  | 126 => ⟨S_, .i32⟩
  | 127 => ⟨S1x50176x9x1, .i32⟩
  | _ => ⟨S1x96x224x224, .f32⟩

abbrev hbmTy0_3 (i : Nat) : BufTy := match i % 128 with
  | 0 => ⟨S1x50176x9x1, .i32⟩
  | 1 => ⟨S1x50176x9x1, .i32⟩
  | 2 => ⟨S50176x9x1, .i32⟩
  | 3 => ⟨S1, .i32⟩
  | 4 => ⟨S_, .i32⟩
  | 5 => ⟨S50176x9x1, .i32⟩
  | 6 => ⟨S50176x9x1, .i1⟩
  | 7 => ⟨S1x1x1, .i32⟩
  | 8 => ⟨S50176x9x1, .i32⟩
  | 9 => ⟨S50176x9x1, .i1⟩
  | 10 => ⟨S50176x9x1, .i1⟩
  | 11 => ⟨S_, .i1⟩
  | 12 => ⟨S50176x9, .i1⟩
  | 13 => ⟨S1x50176x9x96, .f32⟩
  | 14 => ⟨S1x50176x9x96, .i1⟩
  | 15 => ⟨S_, .f32⟩
  | 16 => ⟨S1x50176x9x96, .f32⟩
  | 17 => ⟨S1x50176x9x96, .f32⟩
  | 18 => ⟨S1x50176x9x1, .f32⟩
  | 19 => ⟨S1x50176x9x96, .f32⟩
  | 20 => ⟨S1x50176x9x96, .f32⟩
  | 21 => ⟨S_, .f32⟩
  | 22 => ⟨S1x50176x96, .f32⟩
  | 23 => ⟨S1x96x50176, .f32⟩
  | 24 => ⟨S_, .f32⟩
  | 25 => ⟨S1x50176, .f32⟩
  | 26 => ⟨S1x50176, .i1⟩
  | 27 => ⟨S1x1x50176, .i1⟩
  | 28 => ⟨S1x96x50176, .i1⟩
  | 29 => ⟨S1x96x50176, .f32⟩
  | 30 => ⟨S1x96x224x224, .f32⟩
  | 31 => ⟨S1x32x3x224x224, .f32⟩
  | 32 => ⟨S_, .f32⟩
  | 33 => ⟨S1x32, .f32⟩
  | 34 => ⟨S1x32x1x1x1, .f32⟩
  | 35 => ⟨S_, .f32⟩
  | 36 => ⟨S1x32x1x1x1, .f32⟩
  | 37 => ⟨S1x32x1x1x1, .f32⟩
  | 38 => ⟨S_, .i32⟩
  | 39 => ⟨S_, .f32⟩
  | 40 => ⟨S1x32, .f32⟩
  | 41 => ⟨S1x32x1x1x1, .f32⟩
  | 42 => ⟨S_, .f32⟩
  | 43 => ⟨S1x32x1x1x1, .f32⟩
  | 44 => ⟨S1x32x1x1x1, .f32⟩
  | 45 => ⟨S1x32x3x224x224, .f32⟩
  | 46 => ⟨S1x32x3x224x224, .f32⟩
  | 47 => ⟨S1x32x3x224x224, .f32⟩
  | 48 => ⟨S_, .f32⟩
  | 49 => ⟨S_, .f32⟩
  | 50 => ⟨S_, .f32⟩
  | 51 => ⟨S_, .f32⟩
  | 52 => ⟨S1x32, .f32⟩
  | 53 => ⟨S1x32x1x1x1, .f32⟩
  | 54 => ⟨S1x32x1x1x1, .f32⟩
  | 55 => ⟨S1x32x1x1x1, .f32⟩
  | 56 => ⟨S_, .f32⟩
  | 57 => ⟨S_, .i1⟩
  | 58 => ⟨S_, .f32⟩
  | 59 => ⟨S_, .f32⟩
  | 60 => ⟨S1x32x1x1x1, .f32⟩
  | 61 => ⟨S1x32x1x1x1, .f32⟩
  | 62 => ⟨S1x32x3x224x224, .f32⟩
  | 63 => ⟨S1x32x3x224x224, .f32⟩
  | 64 => ⟨S_, .f32⟩
  | 65 => ⟨S1x32x1x1x1, .f32⟩
  | 66 => ⟨S1x32x1x1x1, .f32⟩
  | 67 => ⟨S1x32x1x1x1, .f32⟩
  | 68 => ⟨S1x32x3x224x224, .f32⟩
  | 69 => ⟨S1x32x3x224x224, .f32⟩
  | 70 => ⟨S1x96x224x224, .f32⟩
  | 71 => ⟨S1x96x1x1, .f32⟩
  | 72 => ⟨S1x96x224x224, .f32⟩
  | 73 => ⟨S1x96x224x224, .f32⟩
  | 74 => ⟨S1x96x1x1, .f32⟩
  | 75 => ⟨S1x96x224x224, .f32⟩
  | 76 => ⟨S1x96x224x224, .f32⟩
  | 77 => ⟨S1x96x224x224, .f32⟩
  | 78 => ⟨S1x224x224x192, .f32⟩
  | 79 => ⟨S1x192x224x224, .f32⟩
  | 80 => ⟨S1x192x1x1, .f32⟩
  | 81 => ⟨S1x192x224x224, .f32⟩
  | 82 => ⟨S1x192x224x224, .f32⟩
  | 83 => ⟨S_, .f32⟩
  | 84 => ⟨S1x192x224x224, .f32⟩
  | 85 => ⟨S1x192x224x224, .f32⟩
  | 86 => ⟨S1x224x224x96, .f32⟩
  | 87 => ⟨S1x96x224x224, .f32⟩
  | 88 => ⟨S1x96x1x1, .f32⟩
  | 89 => ⟨S1x96x224x224, .f32⟩
  | 90 => ⟨S1x96x224x224, .f32⟩
  | 91 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | 3 => hbmTy0_3 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_cst_2 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_cst_3 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_cst_4 : Ref sig .tc := ⟨.hbm, 31, rfl⟩
abbrev main_call0_v19 : Ref sig .tc := ⟨.hbm, 32, rfl⟩
abbrev main_call0_v20 : Ref sig .tc := ⟨.hbm, 33, rfl⟩
abbrev main_call0_cst_5 : Ref sig .tc := ⟨.hbm, 34, rfl⟩
abbrev main_call0_v21 : Ref sig .tc := ⟨.hbm, 35, rfl⟩
abbrev main_call0_v22 : Ref sig .tc := ⟨.hbm, 36, rfl⟩
abbrev main_call0_cst_6 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_cst_7 : Ref sig .tc := ⟨.hbm, 41, rfl⟩
abbrev main_call0_v26 : Ref sig .tc := ⟨.hbm, 42, rfl⟩
abbrev main_call0_v27 : Ref sig .tc := ⟨.hbm, 43, rfl⟩
abbrev main_call0_cst_8 : Ref sig .tc := ⟨.hbm, 44, rfl⟩
abbrev main_call0_v28 : Ref sig .tc := ⟨.hbm, 45, rfl⟩
abbrev main_call0_v29 : Ref sig .tc := ⟨.hbm, 46, rfl⟩
abbrev main_call0_c : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_c_9 : Ref sig .tc := ⟨.hbm, 53, rfl⟩
abbrev main_call0_call1_v0 : Ref sig .tc := ⟨.hbm, 54, rfl⟩
abbrev main_call0_call1_v1 : Ref sig .tc := ⟨.hbm, 55, rfl⟩
abbrev main_call0_call1_v2 : Ref sig .tc := ⟨.hbm, 56, rfl⟩
abbrev main_call0_v33 : Ref sig .tc := ⟨.hbm, 57, rfl⟩
abbrev main_call0_cst_10 : Ref sig .tc := ⟨.hbm, 58, rfl⟩
abbrev main_call0_v34 : Ref sig .tc := ⟨.hbm, 59, rfl⟩
abbrev main_call0_v35 : Ref sig .tc := ⟨.hbm, 60, rfl⟩
abbrev main_call0_cst_11 : Ref sig .tc := ⟨.hbm, 61, rfl⟩
abbrev main_call0_v36 : Ref sig .tc := ⟨.hbm, 62, rfl⟩
abbrev main_call0_v37 : Ref sig .tc := ⟨.hbm, 63, rfl⟩
abbrev main_call0_v38 : Ref sig .tc := ⟨.hbm, 64, rfl⟩
abbrev main_call0_v39 : Ref sig .tc := ⟨.hbm, 65, rfl⟩
abbrev main_call0_c_12 : Ref sig .tc := ⟨.hbm, 66, rfl⟩
abbrev main_call0_call2_v0 : Ref sig .tc := ⟨.hbm, 67, rfl⟩
abbrev main_call0_call2_v1 : Ref sig .tc := ⟨.hbm, 68, rfl⟩
abbrev main_call0_call2_v2 : Ref sig .tc := ⟨.hbm, 69, rfl⟩
abbrev main_call0_v40 : Ref sig .tc := ⟨.hbm, 70, rfl⟩
abbrev main_call0_v41 : Ref sig .tc := ⟨.hbm, 71, rfl⟩
abbrev main_v0 : Ref sig .tc := ⟨.hbm, 72, rfl⟩
abbrev main_call1_v0 : Ref sig .tc := ⟨.hbm, 73, rfl⟩
abbrev main_call1_cst : Ref sig .tc := ⟨.hbm, 74, rfl⟩
abbrev main_call1_v1 : Ref sig .tc := ⟨.hbm, 75, rfl⟩
abbrev main_call1_v2 : Ref sig .tc := ⟨.hbm, 76, rfl⟩
abbrev main_call1_cst_0 : Ref sig .tc := ⟨.hbm, 77, rfl⟩
abbrev main_call1_v3 : Ref sig .tc := ⟨.hbm, 78, rfl⟩
abbrev main_call1_v4 : Ref sig .tc := ⟨.hbm, 79, rfl⟩
abbrev main_call1_cst_1 : Ref sig .tc := ⟨.hbm, 80, rfl⟩
abbrev main_call1_v5 : Ref sig .tc := ⟨.hbm, 81, rfl⟩
abbrev main_call1_v6 : Ref sig .tc := ⟨.hbm, 82, rfl⟩
abbrev main_call1_cst_2 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_call1_v15 : Ref sig .tc := ⟨.hbm, 92, rfl⟩
abbrev main_call1_cst_3 : Ref sig .tc := ⟨.hbm, 93, rfl⟩
abbrev main_call1_v16 : Ref sig .tc := ⟨.hbm, 94, rfl⟩
abbrev main_call1_v17 : Ref sig .tc := ⟨.hbm, 95, rfl⟩
abbrev main_call1_v18 : Ref sig .tc := ⟨.hbm, 96, rfl⟩
abbrev main_call1_cst_4 : Ref sig .tc := ⟨.hbm, 97, rfl⟩
abbrev main_call1_v19 : Ref sig .tc := ⟨.hbm, 98, rfl⟩
abbrev main_call1_v20 : Ref sig .tc := ⟨.hbm, 99, rfl⟩
abbrev main_call1_cst_5 : Ref sig .tc := ⟨.hbm, 100, rfl⟩
abbrev main_call1_v21 : Ref sig .tc := ⟨.hbm, 101, rfl⟩
abbrev main_call1_v22 : Ref sig .tc := ⟨.hbm, 102, rfl⟩
abbrev main_call1_cst_6 : Ref sig .tc := ⟨.hbm, 103, rfl⟩
abbrev main_call1_v23 : Ref sig .tc := ⟨.hbm, 104, rfl⟩
abbrev main_call1_v24 : Ref sig .tc := ⟨.hbm, 105, rfl⟩
abbrev main_call1_v25 : Ref sig .tc := ⟨.hbm, 106, rfl⟩
abbrev main_call1_cst_7 : Ref sig .tc := ⟨.hbm, 107, rfl⟩
abbrev main_call1_v26 : Ref sig .tc := ⟨.hbm, 108, rfl⟩
abbrev main_call1_v27 : Ref sig .tc := ⟨.hbm, 109, rfl⟩
abbrev main_call1_cst_8 : Ref sig .tc := ⟨.hbm, 110, rfl⟩
abbrev main_call1_v28 : Ref sig .tc := ⟨.hbm, 111, rfl⟩
abbrev main_call1_v29 : Ref sig .tc := ⟨.hbm, 112, rfl⟩
abbrev main_call1_c : Ref sig .tc := ⟨.hbm, 113, rfl⟩
abbrev main_call1_call0_v0 : Ref sig .tc := ⟨.hbm, 114, rfl⟩
abbrev main_call1_call0_v1 : Ref sig .tc := ⟨.hbm, 115, rfl⟩
abbrev main_call1_v30 : Ref sig .tc := ⟨.hbm, 116, rfl⟩
abbrev main_call1_v31 : Ref sig .tc := ⟨.hbm, 117, rfl⟩
abbrev main_call1_v32 : Ref sig .tc := ⟨.hbm, 118, rfl⟩
abbrev main_call1_c_9 : Ref sig .tc := ⟨.hbm, 119, rfl⟩
abbrev main_call1_call1_v0 : Ref sig .tc := ⟨.hbm, 120, rfl⟩
abbrev main_call1_call1_v1 : Ref sig .tc := ⟨.hbm, 121, rfl⟩
abbrev main_call1_call1_v2 : Ref sig .tc := ⟨.hbm, 122, rfl⟩
abbrev main_call1_v33 : Ref sig .tc := ⟨.hbm, 123, rfl⟩
abbrev main_call1_cst_10 : Ref sig .tc := ⟨.hbm, 124, rfl⟩
abbrev main_call1_v34 : Ref sig .tc := ⟨.hbm, 125, rfl⟩
abbrev main_call1_v35 : Ref sig .tc := ⟨.hbm, 126, rfl⟩
abbrev main_call1_cst_11 : Ref sig .tc := ⟨.hbm, 127, rfl⟩
abbrev main_call1_v36 : Ref sig .tc := ⟨.hbm, 128, rfl⟩
abbrev main_call1_v37 : Ref sig .tc := ⟨.hbm, 129, rfl⟩
abbrev main_call1_v38 : Ref sig .tc := ⟨.hbm, 130, rfl⟩
abbrev main_call1_v39 : Ref sig .tc := ⟨.hbm, 131, rfl⟩
abbrev main_call1_c_12 : Ref sig .tc := ⟨.hbm, 132, rfl⟩
abbrev main_call1_call2_v0 : Ref sig .tc := ⟨.hbm, 133, rfl⟩
abbrev main_call1_call2_v1 : Ref sig .tc := ⟨.hbm, 134, rfl⟩
abbrev main_call1_call2_v2 : Ref sig .tc := ⟨.hbm, 135, rfl⟩
abbrev main_call1_v40 : Ref sig .tc := ⟨.hbm, 136, rfl⟩
abbrev main_v1 : Ref sig .tc := ⟨.hbm, 137, rfl⟩
abbrev main_call2_v0 : Ref sig .tc := ⟨.hbm, 138, rfl⟩
abbrev main_call2_cst : Ref sig .tc := ⟨.hbm, 139, rfl⟩
abbrev main_call2_v1 : Ref sig .tc := ⟨.hbm, 140, rfl⟩
abbrev main_call2_v2 : Ref sig .tc := ⟨.hbm, 141, rfl⟩
abbrev main_call2_cst_0 : Ref sig .tc := ⟨.hbm, 142, rfl⟩
abbrev main_call2_v3 : Ref sig .tc := ⟨.hbm, 143, rfl⟩
abbrev main_call2_v4 : Ref sig .tc := ⟨.hbm, 144, rfl⟩
abbrev main_call2_cst_1 : Ref sig .tc := ⟨.hbm, 145, rfl⟩
abbrev main_call2_v5 : Ref sig .tc := ⟨.hbm, 146, rfl⟩
abbrev main_call2_v6 : Ref sig .tc := ⟨.hbm, 147, rfl⟩
abbrev main_call2_cst_2 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_v13 : Ref sig .tc := ⟨.hbm, 155, rfl⟩
abbrev main_call2_v14 : Ref sig .tc := ⟨.hbm, 156, rfl⟩
abbrev main_call2_v15 : Ref sig .tc := ⟨.hbm, 157, rfl⟩
abbrev main_call2_cst_3 : Ref sig .tc := ⟨.hbm, 158, rfl⟩
abbrev main_call2_v16 : Ref sig .tc := ⟨.hbm, 159, rfl⟩
abbrev main_call2_v17 : Ref sig .tc := ⟨.hbm, 160, rfl⟩
abbrev main_call2_v18 : Ref sig .tc := ⟨.hbm, 161, rfl⟩
abbrev main_call2_cst_4 : Ref sig .tc := ⟨.hbm, 162, rfl⟩
abbrev main_call2_v19 : Ref sig .tc := ⟨.hbm, 163, rfl⟩
abbrev main_call2_v20 : Ref sig .tc := ⟨.hbm, 164, rfl⟩
abbrev main_call2_cst_5 : Ref sig .tc := ⟨.hbm, 165, rfl⟩
abbrev main_call2_v21 : Ref sig .tc := ⟨.hbm, 166, rfl⟩
abbrev main_call2_v22 : Ref sig .tc := ⟨.hbm, 167, rfl⟩
abbrev main_call2_cst_6 : Ref sig .tc := ⟨.hbm, 168, rfl⟩
abbrev main_call2_v23 : Ref sig .tc := ⟨.hbm, 169, rfl⟩
abbrev main_call2_v24 : Ref sig .tc := ⟨.hbm, 170, rfl⟩
abbrev main_call2_v25 : Ref sig .tc := ⟨.hbm, 171, rfl⟩
abbrev main_call2_cst_7 : Ref sig .tc := ⟨.hbm, 172, rfl⟩
abbrev main_call2_v26 : Ref sig .tc := ⟨.hbm, 173, rfl⟩
abbrev main_call2_v27 : Ref sig .tc := ⟨.hbm, 174, rfl⟩
abbrev main_call2_cst_8 : Ref sig .tc := ⟨.hbm, 175, rfl⟩
abbrev main_call2_v28 : Ref sig .tc := ⟨.hbm, 176, rfl⟩
abbrev main_call2_v29 : Ref sig .tc := ⟨.hbm, 177, rfl⟩
abbrev main_call2_c : Ref sig .tc := ⟨.hbm, 178, rfl⟩
abbrev main_call2_call0_v0 : Ref sig .tc := ⟨.hbm, 179, rfl⟩
abbrev main_call2_call0_v1 : Ref sig .tc := ⟨.hbm, 180, rfl⟩
abbrev main_call2_v30 : Ref sig .tc := ⟨.hbm, 181, rfl⟩
abbrev main_call2_v31 : Ref sig .tc := ⟨.hbm, 182, rfl⟩
abbrev main_call2_v32 : Ref sig .tc := ⟨.hbm, 183, rfl⟩
abbrev main_call2_c_9 : Ref sig .tc := ⟨.hbm, 184, rfl⟩
abbrev main_call2_call1_v0 : Ref sig .tc := ⟨.hbm, 185, rfl⟩
abbrev main_call2_call1_v1 : Ref sig .tc := ⟨.hbm, 186, rfl⟩
abbrev main_call2_call1_v2 : Ref sig .tc := ⟨.hbm, 187, rfl⟩
abbrev main_call2_v33 : Ref sig .tc := ⟨.hbm, 188, rfl⟩
abbrev main_call2_cst_10 : Ref sig .tc := ⟨.hbm, 189, rfl⟩
abbrev main_call2_v34 : Ref sig .tc := ⟨.hbm, 190, rfl⟩
abbrev main_call2_v35 : Ref sig .tc := ⟨.hbm, 191, rfl⟩
abbrev main_call2_cst_11 : Ref sig .tc := ⟨.hbm, 192, rfl⟩
abbrev main_call2_v36 : Ref sig .tc := ⟨.hbm, 193, rfl⟩
abbrev main_call2_v37 : Ref sig .tc := ⟨.hbm, 194, rfl⟩
abbrev main_call2_v38 : Ref sig .tc := ⟨.hbm, 195, rfl⟩
abbrev main_call2_v39 : Ref sig .tc := ⟨.hbm, 196, rfl⟩
abbrev main_call2_c_12 : Ref sig .tc := ⟨.hbm, 197, rfl⟩
abbrev main_call2_call2_v0 : Ref sig .tc := ⟨.hbm, 198, rfl⟩
abbrev main_call2_call2_v1 : Ref sig .tc := ⟨.hbm, 199, rfl⟩
abbrev main_call2_call2_v2 : Ref sig .tc := ⟨.hbm, 200, rfl⟩
abbrev main_call2_v40 : Ref sig .tc := ⟨.hbm, 201, rfl⟩
abbrev main_call2_v41 : Ref sig .tc := ⟨.hbm, 202, rfl⟩
abbrev main_v2 : Ref sig .tc := ⟨.hbm, 203, rfl⟩
abbrev main_call3_v0 : Ref sig .tc := ⟨.hbm, 204, rfl⟩
abbrev main_call3_cst : Ref sig .tc := ⟨.hbm, 205, rfl⟩
abbrev main_call3_v1 : Ref sig .tc := ⟨.hbm, 206, rfl⟩
abbrev main_call3_v2 : Ref sig .tc := ⟨.hbm, 207, rfl⟩
abbrev main_call3_cst_0 : Ref sig .tc := ⟨.hbm, 208, rfl⟩
abbrev main_call3_v3 : Ref sig .tc := ⟨.hbm, 209, rfl⟩
abbrev main_call3_v4 : Ref sig .tc := ⟨.hbm, 210, rfl⟩
abbrev main_call3_cst_1 : Ref sig .tc := ⟨.hbm, 211, rfl⟩
abbrev main_call3_v5 : Ref sig .tc := ⟨.hbm, 212, rfl⟩
abbrev main_call3_v6 : Ref sig .tc := ⟨.hbm, 213, rfl⟩
abbrev main_call3_cst_2 : Ref sig .tc := ⟨.hbm, 214, rfl⟩
abbrev main_call3_v7 : Ref sig .tc := ⟨.hbm, 215, rfl⟩
abbrev main_call3_v8 : Ref sig .tc := ⟨.hbm, 216, rfl⟩
abbrev main_call3_v9 : Ref sig .tc := ⟨.hbm, 217, rfl⟩
abbrev main_call3_v10 : Ref sig .tc := ⟨.hbm, 218, rfl⟩
abbrev main_call3_v11 : Ref sig .tc := ⟨.hbm, 219, rfl⟩
abbrev main_call3_v12 : Ref sig .tc := ⟨.hbm, 220, rfl⟩
abbrev main_call3_v13 : Ref sig .tc := ⟨.hbm, 221, rfl⟩
abbrev main_call3_v14 : Ref sig .tc := ⟨.hbm, 222, rfl⟩
abbrev main_call3_v15 : Ref sig .tc := ⟨.hbm, 223, rfl⟩
abbrev main_call3_cst_3 : Ref sig .tc := ⟨.hbm, 224, rfl⟩
abbrev main_call3_v16 : Ref sig .tc := ⟨.hbm, 225, rfl⟩
abbrev main_call3_v17 : Ref sig .tc := ⟨.hbm, 226, rfl⟩
abbrev main_call3_v18 : Ref sig .tc := ⟨.hbm, 227, rfl⟩
abbrev main_call3_cst_4 : Ref sig .tc := ⟨.hbm, 228, rfl⟩
abbrev main_call3_v19 : Ref sig .tc := ⟨.hbm, 229, rfl⟩
abbrev main_call3_v20 : Ref sig .tc := ⟨.hbm, 230, rfl⟩
abbrev main_call3_cst_5 : Ref sig .tc := ⟨.hbm, 231, rfl⟩
abbrev main_call3_v21 : Ref sig .tc := ⟨.hbm, 232, rfl⟩
abbrev main_call3_v22 : Ref sig .tc := ⟨.hbm, 233, rfl⟩
abbrev main_call3_cst_6 : Ref sig .tc := ⟨.hbm, 234, rfl⟩
abbrev main_call3_v23 : Ref sig .tc := ⟨.hbm, 235, rfl⟩
abbrev main_call3_v24 : Ref sig .tc := ⟨.hbm, 236, rfl⟩
abbrev main_call3_v25 : Ref sig .tc := ⟨.hbm, 237, rfl⟩
abbrev main_call3_cst_7 : Ref sig .tc := ⟨.hbm, 238, rfl⟩
abbrev main_call3_v26 : Ref sig .tc := ⟨.hbm, 239, rfl⟩
abbrev main_call3_v27 : Ref sig .tc := ⟨.hbm, 240, rfl⟩
abbrev main_call3_cst_8 : Ref sig .tc := ⟨.hbm, 241, rfl⟩
abbrev main_call3_v28 : Ref sig .tc := ⟨.hbm, 242, rfl⟩
abbrev main_call3_v29 : Ref sig .tc := ⟨.hbm, 243, rfl⟩
abbrev main_call3_c : Ref sig .tc := ⟨.hbm, 244, rfl⟩
abbrev main_call3_call0_v0 : Ref sig .tc := ⟨.hbm, 245, rfl⟩
abbrev main_call3_call0_v1 : Ref sig .tc := ⟨.hbm, 246, rfl⟩
abbrev main_call3_v30 : Ref sig .tc := ⟨.hbm, 247, rfl⟩
abbrev main_call3_v31 : Ref sig .tc := ⟨.hbm, 248, rfl⟩
abbrev main_call3_v32 : Ref sig .tc := ⟨.hbm, 249, rfl⟩
abbrev main_call3_c_9 : Ref sig .tc := ⟨.hbm, 250, rfl⟩
abbrev main_call3_call1_v0 : Ref sig .tc := ⟨.hbm, 251, rfl⟩
abbrev main_call3_call1_v1 : Ref sig .tc := ⟨.hbm, 252, rfl⟩
abbrev main_call3_call1_v2 : Ref sig .tc := ⟨.hbm, 253, rfl⟩
abbrev main_call3_v33 : Ref sig .tc := ⟨.hbm, 254, rfl⟩
abbrev main_call3_cst_10 : Ref sig .tc := ⟨.hbm, 255, rfl⟩
abbrev main_call3_v34 : Ref sig .tc := ⟨.hbm, 256, rfl⟩
abbrev main_call3_v35 : Ref sig .tc := ⟨.hbm, 257, rfl⟩
abbrev main_call3_cst_11 : Ref sig .tc := ⟨.hbm, 258, rfl⟩
abbrev main_call3_v36 : Ref sig .tc := ⟨.hbm, 259, rfl⟩
abbrev main_call3_v37 : Ref sig .tc := ⟨.hbm, 260, rfl⟩
abbrev main_call3_v38 : Ref sig .tc := ⟨.hbm, 261, rfl⟩
abbrev main_call3_v39 : Ref sig .tc := ⟨.hbm, 262, rfl⟩
abbrev main_call3_c_12 : Ref sig .tc := ⟨.hbm, 263, rfl⟩
abbrev main_call3_call2_v0 : Ref sig .tc := ⟨.hbm, 264, rfl⟩
abbrev main_call3_call2_v1 : Ref sig .tc := ⟨.hbm, 265, rfl⟩
abbrev main_call3_call2_v2 : Ref sig .tc := ⟨.hbm, 266, rfl⟩
abbrev main_call3_v40 : Ref sig .tc := ⟨.hbm, 267, rfl⟩
abbrev main_v3 : Ref sig .tc := ⟨.hbm, 268, rfl⟩
abbrev main_v4 : Ref sig .tc := ⟨.hbm, 269, rfl⟩
abbrev main_v5 : Ref sig .tc := ⟨.hbm, 270, rfl⟩
abbrev main_cst : Ref sig .tc := ⟨.hbm, 271, rfl⟩
abbrev main_v6 : Ref sig .tc := ⟨.hbm, 272, rfl⟩
abbrev main_v7 : Ref sig .tc := ⟨.hbm, 273, rfl⟩
abbrev main_v8 : Ref sig .tc := ⟨.hbm, 274, rfl⟩
abbrev main_cst_0 : Ref sig .tc := ⟨.hbm, 275, rfl⟩
abbrev main_v9 : Ref sig .tc := ⟨.hbm, 276, rfl⟩
abbrev main_v10 : Ref sig .tc := ⟨.hbm, 277, rfl⟩
abbrev main_v11 : Ref sig .tc := ⟨.hbm, 278, rfl⟩
abbrev main_cst_1 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_v15 : Ref sig .tc := ⟨.hbm, 283, rfl⟩
abbrev main_v16 : Ref sig .tc := ⟨.hbm, 284, rfl⟩
abbrev main_cst_2 : Ref sig .tc := ⟨.hbm, 285, rfl⟩
abbrev main_v17 : Ref sig .tc := ⟨.hbm, 286, rfl⟩
abbrev main_v18 : Ref sig .tc := ⟨.hbm, 287, rfl⟩
abbrev main_v19 : Ref sig .tc := ⟨.hbm, 288, rfl⟩
abbrev main_v20 : Ref sig .tc := ⟨.hbm, 289, rfl⟩
abbrev main_v21 : Ref sig .tc := ⟨.hbm, 290, rfl⟩
abbrev main_cst_3 : Ref sig .tc := ⟨.hbm, 291, rfl⟩
abbrev main_v22 : Ref sig .tc := ⟨.hbm, 292, rfl⟩
abbrev main_v23 : Ref sig .tc := ⟨.hbm, 293, rfl⟩
abbrev main_v24 : Ref sig .tc := ⟨.hbm, 294, rfl⟩
abbrev main_cst_4 : Ref sig .tc := ⟨.hbm, 295, rfl⟩
abbrev main_v25 : Ref sig .tc := ⟨.hbm, 296, rfl⟩
abbrev main_v26 : Ref sig .tc := ⟨.hbm, 297, rfl⟩
abbrev main_v27 : Ref sig .tc := ⟨.hbm, 298, rfl⟩
abbrev main_c : Ref sig .tc := ⟨.hbm, 299, rfl⟩
abbrev main_call5_v0 : Ref sig .tc := ⟨.hbm, 300, rfl⟩
abbrev main_call5_v1 : Ref sig .tc := ⟨.hbm, 301, rfl⟩
abbrev main_v28 : Ref sig .tc := ⟨.hbm, 302, rfl⟩
abbrev main_v29 : Ref sig .tc := ⟨.hbm, 303, rfl⟩
abbrev main_cst_5 : Ref sig .tc := ⟨.hbm, 304, rfl⟩
abbrev main_v30 : Ref sig .tc := ⟨.hbm, 305, rfl⟩
abbrev main_v31 : Ref sig .tc := ⟨.hbm, 306, rfl⟩
abbrev main_v32 : Ref sig .tc := ⟨.hbm, 307, rfl⟩
abbrev main_c_6 : Ref sig .tc := ⟨.hbm, 308, rfl⟩
abbrev main_call6_v0 : Ref sig .tc := ⟨.hbm, 309, rfl⟩
abbrev main_v33 : Ref sig .tc := ⟨.hbm, 310, rfl⟩
abbrev main_v34 : Ref sig .tc := ⟨.hbm, 311, rfl⟩
abbrev main_v35 : Ref sig .tc := ⟨.hbm, 312, rfl⟩
abbrev main_v36 : Ref sig .tc := ⟨.hbm, 313, rfl⟩
abbrev main_v37 : Ref sig .tc := ⟨.hbm, 314, rfl⟩
abbrev main_v38 : Ref sig .tc := ⟨.hbm, 315, rfl⟩
abbrev main_v39 : Ref sig .tc := ⟨.hbm, 316, rfl⟩
abbrev main_v40 : Ref sig .tc := ⟨.hbm, 317, rfl⟩
abbrev main_v41 : Ref sig .tc := ⟨.hbm, 318, rfl⟩
abbrev main_v42 : Ref sig .tc := ⟨.hbm, 319, rfl⟩
abbrev main_v43 : Ref sig .tc := ⟨.hbm, 320, rfl⟩
abbrev main_v44 : Ref sig .tc := ⟨.hbm, 321, rfl⟩
abbrev main_v45 : Ref sig .tc := ⟨.hbm, 322, rfl⟩
abbrev main_v46 : Ref sig .tc := ⟨.hbm, 323, rfl⟩
abbrev main_v47 : Ref sig .tc := ⟨.hbm, 324, rfl⟩
abbrev main_v48 : Ref sig .tc := ⟨.hbm, 325, rfl⟩
abbrev main_v49 : Ref sig .tc := ⟨.hbm, 326, rfl⟩
abbrev main_v50 : Ref sig .tc := ⟨.hbm, 327, rfl⟩
abbrev main_v51 : Ref sig .tc := ⟨.hbm, 328, rfl⟩
abbrev main_v52 : Ref sig .tc := ⟨.hbm, 329, rfl⟩
abbrev main_v53 : Ref sig .tc := ⟨.hbm, 330, rfl⟩
abbrev main_v54 : Ref sig .tc := ⟨.hbm, 331, rfl⟩
abbrev main_call7_v0 : Ref sig .tc := ⟨.hbm, 332, rfl⟩
abbrev main_call7_cst : Ref sig .tc := ⟨.hbm, 333, rfl⟩
abbrev main_call7_v1 : Ref sig .tc := ⟨.hbm, 334, rfl⟩
abbrev main_call7_v2 : Ref sig .tc := ⟨.hbm, 335, rfl⟩
abbrev main_v55 : Ref sig .tc := ⟨.hbm, 336, rfl⟩
abbrev main_cst_7 : Ref sig .tc := ⟨.hbm, 337, rfl⟩
abbrev main_call8_v0 : Ref sig .tc := ⟨.hbm, 338, rfl⟩
abbrev main_call8_v1 : Ref sig .tc := ⟨.hbm, 339, rfl⟩
abbrev main_v56 : Ref sig .tc := ⟨.hbm, 340, rfl⟩
abbrev main_v57 : Ref sig .tc := ⟨.hbm, 341, rfl⟩
abbrev main_v58 : Ref sig .tc := ⟨.hbm, 342, rfl⟩
abbrev main_call9_v0 : Ref sig .tc := ⟨.hbm, 343, rfl⟩
abbrev main_call9_cst : Ref sig .tc := ⟨.hbm, 344, rfl⟩
abbrev main_call9_v1 : Ref sig .tc := ⟨.hbm, 345, rfl⟩
abbrev main_call9_v2 : Ref sig .tc := ⟨.hbm, 346, rfl⟩
abbrev main_v59 : Ref sig .tc := ⟨.hbm, 347, rfl⟩
abbrev main_cst_8 : Ref sig .tc := ⟨.hbm, 348, rfl⟩
abbrev main_call10_v0 : Ref sig .tc := ⟨.hbm, 349, rfl⟩
abbrev main_call10_v1 : Ref sig .tc := ⟨.hbm, 350, rfl⟩
abbrev main_v60 : Ref sig .tc := ⟨.hbm, 351, rfl⟩
abbrev main_v61 : Ref sig .tc := ⟨.hbm, 352, rfl⟩
abbrev main_v62 : Ref sig .tc := ⟨.hbm, 353, rfl⟩
abbrev main_v63 : Ref sig .tc := ⟨.hbm, 354, rfl⟩
abbrev main_v64 : Ref sig .tc := ⟨.hbm, 355, rfl⟩
abbrev main_v65 : Ref sig .tc := ⟨.hbm, 356, rfl⟩
abbrev main_values : Ref sig .tc := ⟨.hbm, 357, rfl⟩
abbrev main_indices : Ref sig .tc := ⟨.hbm, 358, rfl⟩
abbrev main_v66 : Ref sig .tc := ⟨.hbm, 359, rfl⟩
abbrev main_c_9 : Ref sig .tc := ⟨.hbm, 360, rfl⟩
abbrev main_v67 : Ref sig .tc := ⟨.hbm, 361, rfl⟩
abbrev main_v68 : Ref sig .tc := ⟨.hbm, 362, rfl⟩
abbrev main_v69 : Ref sig .tc := ⟨.hbm, 363, rfl⟩
abbrev main_v70 : Ref sig .tc := ⟨.hbm, 364, rfl⟩
abbrev main_v71 : Ref sig .tc := ⟨.hbm, 365, rfl⟩
abbrev main_v72 : Ref sig .tc := ⟨.hbm, 366, rfl⟩
abbrev main_v73 : Ref sig .tc := ⟨.hbm, 367, rfl⟩
abbrev main_v74 : Ref sig .tc := ⟨.hbm, 368, rfl⟩
abbrev main_v75 : Ref sig .tc := ⟨.hbm, 369, rfl⟩
abbrev main_v76 : Ref sig .tc := ⟨.hbm, 370, rfl⟩
abbrev main_v77 : Ref sig .tc := ⟨.hbm, 371, rfl⟩
abbrev main_cst_10 : Ref sig .tc := ⟨.hbm, 372, rfl⟩
abbrev main_v78 : Ref sig .tc := ⟨.hbm, 373, rfl⟩
abbrev main_v79 : Ref sig .tc := ⟨.hbm, 374, rfl⟩
abbrev main_v80 : Ref sig .tc := ⟨.hbm, 375, rfl⟩
abbrev main_v81 : Ref sig .tc := ⟨.hbm, 376, rfl⟩
abbrev main_v82 : Ref sig .tc := ⟨.hbm, 377, rfl⟩
abbrev main_v83 : Ref sig .tc := ⟨.hbm, 378, rfl⟩
abbrev main_call11_c : Ref sig .tc := ⟨.hbm, 379, rfl⟩
abbrev main_call11_v0 : Ref sig .tc := ⟨.hbm, 380, rfl⟩
abbrev main_call11_v1 : Ref sig .tc := ⟨.hbm, 381, rfl⟩
abbrev main_call11_c_0 : Ref sig .tc := ⟨.hbm, 382, rfl⟩
abbrev main_call11_v2 : Ref sig .tc := ⟨.hbm, 383, rfl⟩
abbrev main_call11_v3 : Ref sig .tc := ⟨.hbm, 384, rfl⟩
abbrev main_call11_v4 : Ref sig .tc := ⟨.hbm, 385, rfl⟩
abbrev main_call11_v5 : Ref sig .tc := ⟨.hbm, 386, rfl⟩
abbrev main_call11_c_1 : Ref sig .tc := ⟨.hbm, 387, rfl⟩
abbrev main_call11_c_2 : Ref sig .tc := ⟨.hbm, 388, rfl⟩
abbrev main_call11_v6 : Ref sig .tc := ⟨.hbm, 389, rfl⟩
abbrev main_call11_v7 : Ref sig .tc := ⟨.hbm, 390, rfl⟩
abbrev main_call11_v8 : Ref sig .tc := ⟨.hbm, 391, rfl⟩
abbrev main_call11_v9 : Ref sig .tc := ⟨.hbm, 392, rfl⟩
abbrev main_call11_v10 : Ref sig .tc := ⟨.hbm, 393, rfl⟩
abbrev main_call11_v11 : Ref sig .tc := ⟨.hbm, 394, rfl⟩
abbrev main_call11_c_3 : Ref sig .tc := ⟨.hbm, 395, rfl⟩
abbrev main_call11_v12 : Ref sig .tc := ⟨.hbm, 396, rfl⟩
abbrev main_call11_v13 : Ref sig .tc := ⟨.hbm, 397, rfl⟩
abbrev main_call11_v14 : Ref sig .tc := ⟨.hbm, 398, rfl⟩
abbrev main_call11_cst : Ref sig .tc := ⟨.hbm, 399, rfl⟩
abbrev main_call11_v15 : Ref sig .tc := ⟨.hbm, 400, rfl⟩
abbrev main_v84 : Ref sig .tc := ⟨.hbm, 401, rfl⟩
abbrev main_v85 : Ref sig .tc := ⟨.hbm, 402, rfl⟩
abbrev main_v86 : Ref sig .tc := ⟨.hbm, 403, rfl⟩
abbrev main_v87 : Ref sig .tc := ⟨.hbm, 404, rfl⟩
abbrev main_cst_11 : Ref sig .tc := ⟨.hbm, 405, rfl⟩
abbrev main_v88 : Ref sig .tc := ⟨.hbm, 406, rfl⟩
abbrev main_v89 : Ref sig .tc := ⟨.hbm, 407, rfl⟩
abbrev main_cst_12 : Ref sig .tc := ⟨.hbm, 408, rfl⟩
abbrev main_v90 : Ref sig .tc := ⟨.hbm, 409, rfl⟩
abbrev main_v91 : Ref sig .tc := ⟨.hbm, 410, rfl⟩
abbrev main_v92 : Ref sig .tc := ⟨.hbm, 411, rfl⟩
abbrev main_call12_v0 : Ref sig .tc := ⟨.hbm, 412, rfl⟩
abbrev main_v93 : Ref sig .tc := ⟨.hbm, 413, rfl⟩
abbrev main_v94 : Ref sig .tc := ⟨.hbm, 414, rfl⟩
abbrev main_v95 : Ref sig .tc := ⟨.hbm, 415, rfl⟩
abbrev main_cst_13 : Ref sig .tc := ⟨.hbm, 416, rfl⟩
abbrev main_v96 : Ref sig .tc := ⟨.hbm, 417, rfl⟩
abbrev main_v97 : Ref sig .tc := ⟨.hbm, 418, rfl⟩
abbrev main_cst_14 : Ref sig .tc := ⟨.hbm, 419, rfl⟩
abbrev main_v98 : Ref sig .tc := ⟨.hbm, 420, rfl⟩
abbrev main_v99 : Ref sig .tc := ⟨.hbm, 421, rfl⟩
abbrev main_c_15 : Ref sig .tc := ⟨.hbm, 422, rfl⟩
abbrev main_call13_cst : Ref sig .tc := ⟨.hbm, 423, rfl⟩
abbrev main_call13_v0 : Ref sig .tc := ⟨.hbm, 424, rfl⟩
abbrev main_call13_v1 : Ref sig .tc := ⟨.hbm, 425, rfl⟩
abbrev main_call13_cst_0 : Ref sig .tc := ⟨.hbm, 426, rfl⟩
abbrev main_call13_v2 : Ref sig .tc := ⟨.hbm, 427, rfl⟩
abbrev main_call13_v3 : Ref sig .tc := ⟨.hbm, 428, rfl⟩
abbrev main_call13_v4 : Ref sig .tc := ⟨.hbm, 429, rfl⟩
abbrev main_call13_v5 : Ref sig .tc := ⟨.hbm, 430, rfl⟩
abbrev main_call13_v6 : Ref sig .tc := ⟨.hbm, 431, rfl⟩
abbrev main_call13_v7 : Ref sig .tc := ⟨.hbm, 432, rfl⟩
abbrev main_call13_cst_1 : Ref sig .tc := ⟨.hbm, 433, rfl⟩
abbrev main_call13_v8 : Ref sig .tc := ⟨.hbm, 434, rfl⟩
abbrev main_call13_cst_2 : Ref sig .tc := ⟨.hbm, 435, rfl⟩
abbrev main_call13_v9 : Ref sig .tc := ⟨.hbm, 436, rfl⟩
abbrev main_call13_v10 : Ref sig .tc := ⟨.hbm, 437, rfl⟩
abbrev main_call13_v11 : Ref sig .tc := ⟨.hbm, 438, rfl⟩
abbrev main_call13_v12 : Ref sig .tc := ⟨.hbm, 439, rfl⟩
abbrev main_call13_cst_3 : Ref sig .tc := ⟨.hbm, 440, rfl⟩
abbrev main_call13_v13 : Ref sig .tc := ⟨.hbm, 441, rfl⟩
abbrev main_call13_cst_4 : Ref sig .tc := ⟨.hbm, 442, rfl⟩
abbrev main_call13_call0_v0 : Ref sig .tc := ⟨.hbm, 443, rfl⟩
abbrev main_call13_call0_v1 : Ref sig .tc := ⟨.hbm, 444, rfl⟩
abbrev main_v100 : Ref sig .tc := ⟨.hbm, 445, rfl⟩
abbrev main_v101 : Ref sig .tc := ⟨.hbm, 446, rfl⟩
abbrev main_v102 : Ref sig .tc := ⟨.hbm, 447, rfl⟩
abbrev main_cst_16 : Ref sig .tc := ⟨.hbm, 448, rfl⟩
abbrev main_v103 : Ref sig .tc := ⟨.hbm, 449, rfl⟩
abbrev main_v104 : Ref sig .tc := ⟨.hbm, 450, rfl⟩
abbrev main_v105 : Ref sig .tc := ⟨.hbm, 451, rfl⟩
abbrev main_v106 : Ref sig .tc := ⟨.hbm, 452, rfl⟩
abbrev main_v107 : Ref sig .tc := ⟨.hbm, 453, rfl⟩
abbrev main_v108 : Ref sig .tc := ⟨.hbm, 454, rfl⟩
abbrev main_v109 : Ref sig .tc := ⟨.hbm, 455, rfl⟩
abbrev main_v110 : Ref sig .tc := ⟨.hbm, 456, rfl⟩
abbrev main_v111 : Ref sig .tc := ⟨.hbm, 457, rfl⟩
abbrev main_v112 : Ref sig .tc := ⟨.hbm, 458, rfl⟩
abbrev main_v113 : Ref sig .tc := ⟨.hbm, 459, rfl⟩
abbrev main_v114 : Ref sig .tc := ⟨.hbm, 460, rfl⟩
abbrev main_v115 : Ref sig .tc := ⟨.hbm, 461, rfl⟩
abbrev main_v116 : Ref sig .tc := ⟨.hbm, 462, rfl⟩
abbrev main_v117 : Ref sig .tc := ⟨.hbm, 463, rfl⟩
abbrev main_v118 : Ref sig .tc := ⟨.hbm, 464, rfl⟩
abbrev main_v119 : Ref sig .tc := ⟨.hbm, 465, rfl⟩
abbrev main_v120 : Ref sig .tc := ⟨.hbm, 466, rfl⟩
abbrev main_call14_cst : Ref sig .tc := ⟨.hbm, 467, rfl⟩
abbrev main_call14_v0 : Ref sig .tc := ⟨.hbm, 468, rfl⟩
abbrev main_v121 : Ref sig .tc := ⟨.hbm, 469, rfl⟩
abbrev main_v122 : Ref sig .tc := ⟨.hbm, 470, rfl⟩
abbrev main_v123 : Ref sig .tc := ⟨.hbm, 471, rfl⟩
abbrev main_v124 : Ref sig .tc := ⟨.hbm, 472, rfl⟩
abbrev main_v125 : Ref sig .tc := ⟨.hbm, 473, rfl⟩
abbrev main_v126 : Ref sig .tc := ⟨.hbm, 474, rfl⟩
abbrev main_v127 : Ref sig .tc := ⟨.hbm, 475, rfl⟩

abbrev nD : Nat := 1
abbrev τ : Topo := Topo.v7x

variable {F : FTy → Type} [FloatOps F]
-- ==== Proof.IdealRun.lean ====
/- The run of the program `KernelIdeal`: two pipelined regions among stretches of host operations.

   Per region, at any contents `V` the region may be entered with: each window's block at a point, the body's triple, what
   the body leaves in each output's buffer, the body obligation. Then the buffer contents at every boundary between the
   segments of @main (`W0` at launch to `W7` at the return), and the run itself. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

-- membership in a rectangle of production extents (`View.cover_of_tiled`) recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # Region 0 of @main: `cc0__df_kernel` (pipeline 0), at the entry contents `V`

Window 3 (the difference map) is one block for all twelve points: the first point stores its part, every later point
adds its part to what the buffer holds. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over `V`'s array whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8x224x224 := Rect.unit (s := S8x224x224) ![0, 0, 0] S8x224x224.size inb_S8x224x224_S8x224x224_0_0_0
abbrev r0_1 : Rect S8x1 := Rect.unit (s := S8x1) ![0, 0] S8x1.size inb_S8x1_S8x1_0_0
abbrev r0_2 : Rect S224x224 := Rect.unit (s := S224x224) ![0, 0] S224x224.size inb_S224x224_S224x224_0_0

/-- The part of the difference map one point computes from its eight channels. -/
def part0 (x0 : Vec F S8x224x224 .f32) (x1 x2 : Vec F S224x224 .f32) : Vec F S224x224 .f32 :=
  k0_pay1 (k0_pay3 (View.ld x0 r0_0)) (View.ld x1 r0_2) (View.ld x2 r0_2) (k0_pay6 (View.ld x0 r0_0) (View.ld x1 r0_2) (View.ld x2 r0_2)) (k0_pay7 (View.ld x0 r0_0)) (constant S224x224 .f32 0x00000000#32)

/-- Window 3's buffer after the first point: the point's part. -/
def out0_3A (x0 : Vec F S8x224x224 .f32) (x1 x2 : Vec F S224x224 .f32) : Vec F S224x224 .f32 :=
  View.canon [⟨r0_2, part0 x0 x1 x2⟩]

/-- Window 3's buffer after a later point, from what it held: the point's part added on. -/
def out0_3B (x0 : Vec F S8x224x224 .f32) (x1 x2 : Vec F S224x224 .f32) (d : Vec F S224x224 .f32) : Vec F S224x224 .f32 :=
  View.canon [⟨r0_2, k0_pay2 (k0_pay3 (View.ld x0 r0_0)) (View.ld x1 r0_2) (View.ld x2 r0_2) (k0_pay6 (View.ld x0 r0_0) (View.ld x1 r0_2) (View.ld x2 r0_2)) (k0_pay7 (View.ld x0 r0_0)) (constant S224x224 .f32 0x00000000#32) (View.ld d r0_2)⟩]

/-- One whole store covers window 3's buffer. -/
theorem cover0_3 (p0 : Vec F S224x224 .f32) (y : S224x224.Idx) :
    ∃ pc ∈ ([⟨r0_2, p0⟩] : List (View.Piece (Elt F) S224x224 .f32)), y ∈ pc.1.set :=
  View.cover_of_tiled [⟨r0_2, p0⟩] S224x224.size (by rfl) y

/-- Window 4's buffer after the body: each channel's sum. -/
def out0_4 (x0 : Vec F S8x224x224 .f32) : Vec F S8x1 .f32 :=
  View.canon [⟨r0_1, k0_pay4 (View.ld x0 r0_0)⟩]

/-- Window 5's buffer after the body: each channel's sum of squares. -/
def out0_5 (x0 : Vec F S8x224x224 .f32) : Vec F S8x1 .f32 :=
  View.canon [⟨r0_1, k0_pay5 (View.ld x0 r0_0)⟩]

/-- One whole store covers window 4's (and window 5's) buffer. -/
theorem cover0_4 (p0 : Vec F S8x1 .f32) (y : S8x1.Idx) :
    ∃ pc ∈ ([⟨r0_1, p0⟩] : List (View.Piece (Elt F) S8x1 .f32)), y ∈ pc.1.set :=
  View.cover_of_tiled [⟨r0_1, p0⟩] S8x1.size (by rfl) y

/-- The body's first branch is taken at the first point only. -/
theorem hcond0_0 (t : Fin cfg0.N) : k0_cond1 (grid0.coords t) = 1#1 ↔ t.val = 0 :=
  (by decide +kernel : ∀ t : Fin grid0.N, k0_cond1 (grid0.coords t) = 1#1 ↔ t.val = 0) t
/-- The body's second branch is taken at every later point. -/
theorem hcond0_1 (t : Fin cfg0.N) : k0_cond2 (grid0.coords t) = 1#1 ↔ t.val ≠ 0 :=
  (by decide +kernel : ∀ t : Fin grid0.N, k0_cond2 (grid0.coords t) = 1#1 ↔ t.val ≠ 0) t

/-- Window 3 is stored into at every point. -/
theorem live0_3 : ∀ t : Fin cfg0.N, cfg0.idle 3 (grid0.coords t) = false := by decide +kernel

/-- Whether window 3's buffer holds nothing stored by the body yet: before the first point, and once written back. -/
def freshTab0_3 (n : ℕ) : Bool := n == 0 || n == 12
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)

set_option maxHeartbeats 1000000 in
/-- The kernel body at the first point, on whole staging memrefs: the inputs stay, each output's buffer is its value of
    the inputs. -/
theorem sound_kernel0A (c : Dev nD) (E : Set ℕ) (i : grid0.Coords) (arg1 : Memref sig .tc .vmem S8x224x224 .f32) (harg1 : arg1.IsWhole) (arg2 : Memref sig .tc .vmem S224x224 .f32) (harg2 : arg2.IsWhole) (arg3 : Memref sig .tc .vmem S224x224 .f32) (harg3 : arg3.IsWhole) (arg4 : Memref sig .tc .vmem S224x224 .f32) (harg4 : arg4.IsWhole) (arg5 : Memref sig .tc .vmem S8x1 .f32) (harg5 : arg5.IsWhole) (arg6 : Memref sig .tc .vmem S8x1 .f32) (harg6 : arg6.IsWhole)
    (hc0 : k0_cond1 i = 1#1) (hc1 : ¬k0_cond2 i = 1#1)
    (x0 : Vec F S8x224x224 .f32) (x1 : Vec F S224x224 .f32) (x2 : Vec F S224x224 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3A x0 x1 x2) ∗ owns (c : Thread nD τ) arg5 fullShare (out0_4 x0) ∗ owns (c : Thread nD τ) arg6 fullShare (out0_5 x0)) -∗ K ⟨⟩))
      ⊢ wp frame (wpE (defs₀ (F := F)) Variants.none c none) E (cc0__df_kernel i arg1 harg1 arg2 harg2 arg3 harg3 arg4 harg4 arg5 harg5 arg6 harg6) K := by
  simp only [cc0__df_kernel_eq_skeleton]; unfold cc0__df_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

set_option maxHeartbeats 1000000 in
/-- The kernel body at a later point: window 3's buffer, holding `d`, is left at `d` plus the point's part. -/
theorem sound_kernel0B (c : Dev nD) (E : Set ℕ) (i : grid0.Coords) (arg1 : Memref sig .tc .vmem S8x224x224 .f32) (harg1 : arg1.IsWhole) (arg2 : Memref sig .tc .vmem S224x224 .f32) (harg2 : arg2.IsWhole) (arg3 : Memref sig .tc .vmem S224x224 .f32) (harg3 : arg3.IsWhole) (arg4 : Memref sig .tc .vmem S224x224 .f32) (harg4 : arg4.IsWhole) (arg5 : Memref sig .tc .vmem S8x1 .f32) (harg5 : arg5.IsWhole) (arg6 : Memref sig .tc .vmem S8x1 .f32) (harg6 : arg6.IsWhole)
    (hc0 : ¬k0_cond1 i = 1#1) (hc1 : k0_cond2 i = 1#1)
    (x0 : Vec F S8x224x224 .f32) (x1 : Vec F S224x224 .f32) (x2 : Vec F S224x224 .f32) (d : Vec F S224x224 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3B x0 x1 x2 d) ∗ owns (c : Thread nD τ) arg5 fullShare (out0_4 x0) ∗ owns (c : Thread nD τ) arg6 fullShare (out0_5 x0)) -∗ K ⟨⟩))
      ⊢ wp frame (wpE (defs₀ (F := F)) Variants.none c none) E (cc0__df_kernel i arg1 harg1 arg2 harg2 arg3 harg3 arg4 harg4 arg5 harg5 arg6 harg6) K := by
  simp only [cc0__df_kernel_eq_skeleton]; unfold cc0__df_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-- What window 3's buffer holds after point `n`: the parts of the points up to it, accumulated. -/
def dfAt (c : Dev nD) : (n : ℕ) → n < cfg0.N → Vec F S224x224 .f32
  | 0, h => out0_3A (iblk0 V c 0 ⟨0, h⟩) (iblk0 V c 1 ⟨0, h⟩) (iblk0 V c 2 ⟨0, h⟩)
  | n + 1, h => out0_3B (iblk0 V c 0 ⟨n + 1, h⟩) (iblk0 V c 1 ⟨n + 1, h⟩) (iblk0 V c 2 ⟨n + 1, h⟩) (dfAt c n (Nat.lt_of_succ_lt h))

/-- The proof data of pipeline 0 on core `c`: the arrays as the region finds them; after the body at point `t` each input's
    buffer at its block, window 3's at what is accumulated, windows 4 and 5 at their values of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => dfAt V c t.val t.isLt
    | ⟨4, _⟩ => out0_4 (iblk0 V c 0 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = dfAt V c t.val t.isLt := by dsimp only [dat0]
theorem after0_4 (c : Dev nD) (t : Fin cfg0.N) : (dat0 V c).after 4 t = out0_4 (iblk0 V c 0 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point window 3's buffer holds what the point before left. -/
theorem before0_3 (c : Dev nD) (t : Fin cfg0.N) (h0 : t.val ≠ 0) (d) :
    (dat0 V c).before 3 t d = dfAt V c (t.val - 1) (Nat.lt_of_le_of_lt (Nat.sub_le _ _) t.isLt) := by
  have hN : t.val < 12 := lt_of_lt_of_eq t.isLt (show cfg0.N = 12 from N_0)
  rw [Dat.before_out_traj _ 3 rfl (fun _ _ => rfl)
    (fun t _ hi _ => absurd ((live0_3 t).symm.trans hi) Bool.false_ne_true) t.val t rfl d, if_neg ?_]
  · dsimp only [dat0]
  · rw [fresh0_3_eq t]
    simp only [freshTab0_3, Bool.or_eq_true, beq_iff_eq, not_or]
    omega

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t
    ∗ owns (c : Thread nD τ) (st0_4 t) fullShare ((dat0 V c).after 4 t)
    ∗ owns (c : Thread nD τ) (st0_5 t) fullShare ((dat0 V c).after 5 t))

/-- The body at any point: the first point by its triple, a later point by its own. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).leavesExact 3 t = owns (c : Thread nD τ) (st0_3 t) fullShare ((dat0 V c).after 3 t) from by
    unfold Dat.leavesExact; rw [live0_3 t]]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val = 0
  · have e : dfAt V c t.val t.isLt = out0_3A (iblk0 V c 0 t) (iblk0 V c 1 t) (iblk0 V c 2 t) := by
      obtain ⟨n, hn⟩ := t
      cases n with
      | zero => rfl
      | succ n => exact absurd h0 (Nat.succ_ne_zero n)
    rw [e]
    iintro ⟨HΦ, Ho, ⟨%d0, H0⟩, ⟨%d1, H1⟩, ⟨%d2, H2⟩, ⟨%d3, H3⟩, ⟨%d4, H4⟩, ⟨%d5, H5⟩⟩
    iapply (sound_kernel0A c Set.univ (grid0.coords t) _ _ _ _ _ _ _ _ _ _ _ _ ((hcond0_0 t).mpr h0) (fun h => (hcond0_1 t).mp h h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have e : dfAt V c t.val t.isLt = out0_3B (iblk0 V c 0 t) (iblk0 V c 1 t) (iblk0 V c 2 t)
        (dfAt V c (t.val - 1) (Nat.lt_of_le_of_lt (Nat.sub_le _ _) t.isLt)) := by
      obtain ⟨n, hn⟩ := t
      cases n with
      | zero => exact absurd rfl h0
      | succ n => rfl
    rw [e]
    simp only [before0_3 V c t h0]
    iintro ⟨HΦ, Ho, ⟨%d0, H0⟩, ⟨%d1, H1⟩, ⟨%d2, H2⟩, ⟨%d3, H3⟩, ⟨%d4, H4⟩, ⟨%d5, H5⟩⟩
    iapply (sound_kernel0B c Set.univ (grid0.coords t) _ _ _ _ _ _ _ _ _ _ _ _ (fun h => h0 ((hcond0_0 t).mp h)) ((hcond0_1 t).mpr h0) (iblk0 V c 0 t) (iblk0 V c 1 t) (iblk0 V c 2 t) _ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__main_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S96x16x226 := Rect.unit (s := S96x16x226) ![0, 0, 0] S96x16x226.size inb_S96x16x226_S96x16x226_0_0_0
abbrev r1_1 : Rect S1x96x226 := Rect.unit (s := S1x96x226) ![0, 0, 0] S1x96x226.size inb_S1x96x226_S1x96x226_0_0_0
abbrev r1_2 : Rect S96x1 := Rect.unit (s := S96x1) ![0, 0] S96x1.size inb_S96x1_S96x1_0_0
abbrev r1_3 : Rect S96x96 := Rect.unit (s := S96x96) ![0, 0] S96x96.size inb_S96x96_S96x96_0_0
abbrev r1_4 : Rect S224x224 := Rect.unit (s := S224x224) ![0, 0] S224x224.size inb_S224x224_S224x224_0_0
abbrev r1_5 : Rect S16x224 := Rect.unit (s := S16x224) ![0, 0] S16x224.size inb_S16x224_S16x224_0_0
abbrev r1_6 : Rect S192x96 := Rect.unit (s := S192x96) ![0, 0] S192x96.size inb_S192x96_S192x96_0_0
abbrev r1_7 : Rect S192x1 := Rect.unit (s := S192x1) ![0, 0] S192x1.size inb_S192x1_S192x1_0_0
abbrev r1_8 : Rect S96x192 := Rect.unit (s := S96x192) ![0, 0] S96x192.size inb_S96x192_S96x192_0_0
abbrev r1_9 : Rect S96x16x224 := Rect.unit (s := S96x16x224) ![0, 0, 0] S96x16x224.size inb_S96x16x224_S96x16x224_0_0_0

/-! ## What the body leaves in each output window's buffer -/

/-! ### Values of the body that the stores' payloads, spelt out, would write more than once

    Each is a vector the body binds (often a part call's result), stated over the input windows' blocks and
    numbered on from the skeleton's payload functions (`k1_pay49` …, after `k1_pay48`), so that
    `out1_W` and the values after it name it instead of spelling it out (`unfold_out out1_W` opens a canon
    with them, `unfold_payloads` opens them with the payloads); the comment after each is the printed function's
    name for the value (a count appended where that name is bound again). -/

def k1_pay49 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S96x16x226 .f32 :=
  k1_pay2 (View.ld x0 r1_0) -- `v1`
def k1_pay50 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S96x16x226 .f32 :=
  k1_pay3 (View.ld x0 r1_0) (View.ld x1 r1_1) -- `v9`
def k1_pay51 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S96x16x226 .f32 :=
  k1_pay4 (View.ld x0 r1_0) (View.ld x2 r1_1) -- `v11`
def k1_pay52 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay10 (View.ld x4 r1_4) (View.ld x3 r1_5) -- `v66`
def k1_pay53 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S18x226 .f32 :=
  k1_pay12 (k1_pay50 x0 x1 x2 x3 x4 x5 x6 x7 x8 x9 x10 x11 x12 x13) (k1_pay51 x0 x1 x2 x3 x4 x5 x6 x7 x8 x9 x10 x11 x12 x13) -- `v77`
def k1_pay54 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S18x226 .f32 :=
  k1_pay13 (F := F) -- `v78`
def k1_pay55 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S18x226 .f32 :=
  k1_pay14 (k1_pay53 x0 x1 x2 x3 x4 x5 x6 x7 x8 x9 x10 x11 x12 x13) (k1_pay54 x0 x1 x2 x3 x4 x5 x6 x7 x8 x9 x10 x11 x12 x13) -- `v79`
def k1_pay56 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay15 (k1_pay53 x0 x1 x2 x3 x4 x5 x6 x7 x8 x9 x10 x11 x12 x13) (k1_pay54 x0 x1 x2 x3 x4 x5 x6 x7 x8 x9 x10 x11 x12 x13) -- `v80`
def k1_pay57 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay17 (k1_pay49 x0 x1 x2 x3 x4 x5 x6 x7 x8 x9 x10 x11 x12 x13) (k1_pay50 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v87`
def k1_pay58 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay18 (k1_pay49 x0 x1 x2 x3 x4 x5 x6 x7 x8 x9 x10 x11 x12 x13) (k1_pay50 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v93`
def k1_pay59 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay19 (k1_pay49 x0 x1 x2 x3 x4 x5 x6 x7 x8 x9 x10 x11 x12 x13) (k1_pay50 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v99`
def k1_pay60 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay20 (k1_pay49 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v105`
def k1_pay61 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay21 (k1_pay49 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v110`
def k1_pay62 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay22 (k1_pay49 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v116`
def k1_pay63 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay23 (k1_pay49 x0 x1 x2 x3 x4 x5 x6 x7 x8 x9 x10 x11 x12 x13) (k1_pay51 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v122`
def k1_pay64 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay24 (k1_pay49 x0 x1 x2 x3 x4 x5 x6 x7 x8 x9 x10 x11 x12 x13) (k1_pay51 x0 x1 x2 x3 x4 x5 x6 x7 x8 x9 x10 x11 x12 x13) (k1_pay53 x0 x1 x2 x3 x4 x5 x6 x7 x8 x9 x10 x11 x12 x13) (k1_pay54 x0 x1 x2 x3 x4 x5 x6 x7 x8 x9 x10 x11 x12 x13) -- `v128`
def k1_pay65 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S96x16x224 .f32 :=
  k1_pay25 (k1_pay49 x0 x1 x2 x3 x4 x5 x6 x7 x8 x9 x10 x11 x12 x13) (k1_pay51 x0 x1 x2 x3 x4 x5 x6 x7 x8 x9 x10 x11 x12 x13) -- `v130`
def k1_pay66 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay26 (k1_pay55 x0 x1 x2 x3 x4 x5 x6 x7 x8 x9 x10 x11 x12 x13) (k1_pay56 x0 x1 x2 x3 x4 x5 x6 x7 x8 x9 x10 x11 x12 x13) (k1_pay65 x0 x1 x2 x3 x4 x5 x6 x7 x8 x9 x10 x11 x12 x13) -- `v134`
def k1_pay67 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay27 (k1_pay52 x0 x1 x2 x3 x4 x5 x6 x7 x8 x9 x10 x11 x12 x13) (k1_pay55 x0 x1 x2 x3 x4 x5 x6 x7 x8 x9 x10 x11 x12 x13) (k1_pay56 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay65 x0 x1 x2 x3 x4 x5 x6 x7 x8 x9 x10 x11 x12 x13) -- `v164`
def k1_pay68 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay28 (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) -- `v186`
def k1_pay69 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 1 :=
  k1_pay29 (k1_pay55 x0 x1 x2 x3 x4 x5 x6 x7 x8 x9 x10 x11 x12 x13) (k1_pay56 x0 x1 x2 x3 x4 x5 x6 x7 x8 x9 x10 x11 x12 x13) (k1_pay58 x0 x1 x2 x3 x4 x5 x6 x7 x8 x9 x10 x11 x12 x13) (k1_pay65 x0 x1 x2 x3 x4 x5 x6 x7 x8 x9 x10 x11 x12 x13) -- `v187`
def k1_pay70 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay33 (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) -- `v245`
def k1_pay71 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay37 (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay62 x0 x1 x2 x3 x4 x5 x6 x7 x8 x9 x10 x11 x12 x13) -- `v301`
def k1_pay72 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay38 (k1_pay61 x0 x1 x2 x3 x4 x5 x6 x7 x8 x9 x10 x11 x12 x13) (k1_pay62 x0 x1 x2 x3 x4 x5 x6 x7 x8 x9 x10 x11 x12 x13) -- `v303`
def k1_pay73 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : FVec F S16x224 .f32 :=
  k1_pay41 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay36 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay32 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay67 x0 x1 x2 x3 x4 x5 x6 x7 x8 x9 x10 x11 x12 x13) (k1_pay68 x0 x1 x2 x3 x4 x5 x6 x7 x8 x9 x10 x11 x12 x13) (k1_pay69 x0 x1 x2 x3 x4 x5 x6 x7 x8 x9 x10 x11 x12 x13)) (k1_pay70 x0 x1 x2 x3 x4 x5 x6 x7 x8 x9 x10 x11 x12 x13)) (k1_pay71 x0 x1 x2 x3 x4 x5 x6 x7 x8 x9 x10 x11 x12 x13) (k1_pay72 x0 x1 x2 x3 x4 x5 x6 x7 x8 x9 x10 x11 x12 x13) -- `v350`
def k1_pay74 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 32 :=
  k1_pay42 (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay64 x0 x1 x2 x3 x4 x5 x6 x7 x8 x9 x10 x11 x12 x13) -- `v360`
def k1_pay75 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : IVec S16x224 1 :=
  k1_pay43 (k1_pay60 x0 x1 x2 x3 x4 x5 x6 x7 x8 x9 x10 x11 x12 x13) (k1_pay64 x0 x1 x2 x3 x4 x5 x6 x7 x8 x9 x10 x11 x12 x13) -- `v361`

/-- Window 14's staging buffer after the body, from the input windows' blocks: its 1 store as pieces, LAST
    FIRST. -/
def out1_14 (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) : Vec F S96x16x224 .f32 :=
  View.canon [⟨r1_9, k1_pay1 (k1_pay48 (k1_pay49 x0 x1 x2 x3 x4 x5 x6 x7 x8 x9 x10 x11 x12 x13) (k1_pay50 x0 x1 x2 x3 x4 x5 x6 x7 x8 x9 x10 x11 x12 x13) (k1_pay51 x0 x1 x2 x3 x4 x5 x6 x7 x8 x9 x10 x11 x12 x13) (k1_pay7 (View.ld x5 r1_2) (View.ld x6 r1_2) (View.ld x7 r1_3) (View.ld x8 r1_2)) (k1_pay8 (View.ld x5 r1_2) (View.ld x6 r1_2) (View.ld x7 r1_3) (View.ld x8 r1_2) (View.ld x9 r1_2)) (k1_pay11 (View.ld x4 r1_4) (View.ld x3 r1_5)) (k1_pay16 (k1_pay49 x0 x1 x2 x3 x4 x5 x6 x7 x8 x9 x10 x11 x12 x13)) (k1_pay30 (k1_pay52 x0 x1 x2 x3 x4 x5 x6 x7 x8 x9 x10 x11 x12 x13) (k1_pay58 x0 x1 x2 x3 x4 x5 x6 x7 x8 x9 x10 x11 x12 x13) (k1_pay68 x0 x1 x2 x3 x4 x5 x6 x7 x8 x9 x10 x11 x12 x13) (k1_pay69 x0 x1 x2 x3 x4 x5 x6 x7 x8 x9 x10 x11 x12 x13)) (k1_pay31 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13)) (k1_pay34 (k1_pay52 x0 x1 x2 x3 x4 x5 x6 x7 x8 x9 x10 x11 x12 x13) (k1_pay60 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay70 x0 x1 x2 x3 x4 x5 x6 x7 x8 x9 x10 x11 x12 x13)) (k1_pay35 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13)) (k1_pay39 (k1_pay52 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay71 x0 x1 x2 x3 x4 x5 x6 x7 x8 x9 x10 x11 x12 x13) (k1_pay72 x0 x1 x2 x3 x4 x5 x6 x7 x8 x9 x10 x11 x12 x13)) (k1_pay40 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13)) (k1_pay44 (k1_pay52 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay74 x0 x1 x2 x3 x4 x5 x6 x7 x8 x9 x10 x11 x12 x13) (k1_pay75 x0 x1 x2 x3 x4 x5 x6 x7 x8 x9 x10 x11 x12 x13)) (k1_pay45 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13)) (k1_pay46 (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay73 x0 x1 x2 x3 x4 x5 x6 x7 x8 x9 x10 x11 x12 x13) (k1_pay74 x0 x1 x2 x3 x4 x5 x6 x7 x8 x9 x10 x11 x12 x13) (k1_pay75 x0 x1 x2 x3 x4 x5 x6 x7 x8 x9 x10 x11 x12 x13)) (k1_pay47 (k1_pay50 x0 x1 x2 x3 x4 x5 x6 x7 x8 x9 x10 x11 x12 x13) (k1_pay52 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (k1_pay60 x0 x1 x2 x3 x4 x5 x6 x7 x8 x9 x10 x11 x12 x13) (k1_pay61 x0 x1 x2 x3 x4 x5 x6 x7 x8 x9 x10 x11 x12 x13) (k1_pay62 x0 x1 x2 x3 x4 x5 x6 x7 x8 x9 x10 x11 x12 x13) (k1_pay63 x0 x1 x2 x3 x4 x5 x6 x7 x8 x9 x10 x11 x12 x13) (k1_pay64 x0 x1 x2 x3 x4 x5 x6 x7 x8 x9 x10 x11 x12 x13) (k1_pay66 x0 x1 x2 x3 x4 x5 x6 x7 x8 x9 x10 x11 x12 x13) (k1_pay67 x0 x1 x2 x3 x4 x5 x6 x7 x8 x9 x10 x11 x12 x13) (k1_pay73 x0 x1 x2 x3 x4 x5 x6 x7 x8 x9 x10 x11 x12 x13) (k1_pay74 x0 x1 x2 x3 x4 x5 x6 x7 x8 x9 x10 x11 x12 x13) (k1_pay75 x0 x1 x2 x3 x4 x5 x6 x7 x8 x9 x10 x11 x12 x13))) (View.ld x10 r1_6) (View.ld x11 r1_7) (View.ld x12 r1_8) (View.ld x13 r1_2)⟩]

/-- Its stores tile the buffer (checked by evaluation), so they cover it. -/
theorem cover1_14 (p0 : Vec F S96x16x224 .f32) (y : S96x16x224.Idx) :
    ∃ pc ∈ ([⟨r1_9, p0⟩] : List (View.Piece (Elt F) S96x16x224 .f32)), y ∈ pc.1.set :=
  View.cover_of_tiled [⟨r1_9, p0⟩] S96x16x224.size (by rfl) y

/-! ## The body's triple -/

set_option maxHeartbeats 2000000 in
/-- The kernel body on whole staging memrefs, the inputs' at read contents `xW` and the outputs' at anything, runs to
    the continuation holding the inputs' as they were and each output's at `out1_W` of the inputs': the printed functions
    are their skeletons (`*_eq_skeleton`), which `sl_exec` runs, through every part call. -/
theorem sound_kernel1 (c : Dev nD) (E : Set ℕ) (i : grid1.Coords) (arg1 : Memref sig .tc .vmem S96x16x226 .f32) (harg1 : arg1.IsWhole) (arg2 : Memref sig .tc .vmem S1x96x226 .f32) (harg2 : arg2.IsWhole) (arg3 : Memref sig .tc .vmem S1x96x226 .f32) (harg3 : arg3.IsWhole) (arg4 : Memref sig .tc .vmem S16x224 .f32) (harg4 : arg4.IsWhole) (arg5 : Memref sig .tc .vmem S224x224 .f32) (harg5 : arg5.IsWhole) (arg6 : Memref sig .tc .vmem S96x1 .f32) (harg6 : arg6.IsWhole) (arg7 : Memref sig .tc .vmem S96x1 .f32) (harg7 : arg7.IsWhole) (arg8 : Memref sig .tc .vmem S96x96 .f32) (harg8 : arg8.IsWhole) (arg9 : Memref sig .tc .vmem S96x1 .f32) (harg9 : arg9.IsWhole) (arg10 : Memref sig .tc .vmem S96x1 .f32) (harg10 : arg10.IsWhole) (arg11 : Memref sig .tc .vmem S192x96 .f32) (harg11 : arg11.IsWhole) (arg12 : Memref sig .tc .vmem S192x1 .f32) (harg12 : arg12.IsWhole) (arg13 : Memref sig .tc .vmem S96x192 .f32) (harg13 : arg13.IsWhole) (arg14 : Memref sig .tc .vmem S96x1 .f32) (harg14 : arg14.IsWhole) (arg15 : Memref sig .tc .vmem S96x16x224 .f32) (harg15 : arg15.IsWhole)
    (x0 : Vec F S96x16x226 .f32) (x1 : Vec F S1x96x226 .f32) (x2 : Vec F S1x96x226 .f32) (x3 : Vec F S16x224 .f32) (x4 : Vec F S224x224 .f32) (x5 : Vec F S96x1 .f32) (x6 : Vec F S96x1 .f32) (x7 : Vec F S96x96 .f32) (x8 : Vec F S96x1 .f32) (x9 : Vec F S96x1 .f32) (x10 : Vec F S192x96 .f32) (x11 : Vec F S192x1 .f32) (x12 : Vec F S96x192 .f32) (x13 : Vec F S96x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__main_kernel_eq_skeleton]; unfold cc1__main_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ (cover1_14 _)).trans ?_
  rfl

/-! ## The pipeline's proof data -/

/-- The proof data of pipeline 1 on core `c`: the arrays as the region finds them (`V`); after the body at
    point `t` each input's buffer at its block and each output's at `out1_W` of the input blocks; the invariant the
    class's; nothing owed;
    each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_2, main_v2, main_v3, main_v4, main_v5, main_v6, main_v7, main_v8]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12, main_v13]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v15]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact (dat1 (V5 m ρ) c).withArrays_arrAt launch₀1.sharedIn _ (A_eq1 (V5 m ρ) c) w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and in every final state the result array holds what the last boundary's
    contents say, the argument arrays are as launched, and every semaphore counter is at zero. -/
theorem run : θ_run defs (onTc (τ := τ) (main (F := F))) ⟨m, fun _ => 0, ρ⟩ (fun r => (∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v15 (by decide)), (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

/-- The frame: `run` without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run m ρ)

end Cert.KernelIdeal.Run

end
-- ==== Proof.Spec.lean ====
/- The functions of extended reals the two programs compute: the zero-padded image, the similarities of a pixel with its
   nine neighbours, the weights of its strongest neighbours, the number of connections of a pixel. -/
module

public import Idealize.ShloMosaic.Lib.Pointwise
public import Mathlib.Data.EReal.Inv

@[expose] public section

set_option maxRecDepth 16384

noncomputable section

namespace Cert.Spec

open Idealize.ShloMosaic

/-- The image with a frame of zeros one pixel wide: coordinate `1` of the frame is coordinate `0` of the image. -/
def pd (X : Fin 96 → Fin 224 → Fin 224 → EReal) (c : Fin 96) (i j : ℕ) : EReal :=
  if h : (1 ≤ i ∧ i ≤ 224) ∧ (1 ≤ j ∧ j ≤ 224) then X c ⟨i - 1, by omega⟩ ⟨j - 1, by omega⟩ else 0

/-- The smallest norm a vector is divided by. -/
def eps : EReal := Ideal.ofBits .f32 0x2B8CBCCC#32

/-- The norm of the pixel's channel vector, not below `eps`. -/
def nrm (P : Fin 96 → ℕ → ℕ → EReal) (i j : ℕ) : EReal :=
  max (Ideal.sqrt (∑ c, P c i j * P c i j)) eps

/-- The similarity of pixel `(i, j)` with its neighbour `d`: the inner product times both reciprocal norms. -/
def sim (P : Fin 96 → ℕ → ℕ → EReal) (i j : ℕ) (d : Fin 9) : EReal :=
  (∑ c, P c (i + 1) (j + 1) * P c (i + d.val / 3) (j + d.val % 3)) * Ideal.div 1 (nrm P (i + 1) (j + 1))
    * Ideal.div 1 (nrm P (i + d.val / 3) (j + d.val % 3))

/-- `1` where `t` comes before `j` in the order by falling similarity (ties in index order), else `0`. -/
def before (s : Fin 9 → EReal) (t j : Fin 9) : ℕ :=
  if t < j then (if s j ≤ s t then 1 else 0) else if j < t then (if s j < s t then 1 else 0) else 0

/-- How many neighbours come before `j`. -/
def rank (s : Fin 9 → EReal) (j : Fin 9) : ℕ := ∑ t, before s t j

/-- The weight of neighbour `j`: the exponential of its similarity when it is among the first `k`, else `0`. -/
def wt (s : Fin 9 → EReal) (k : BitVec 32) (j : Fin 9) : EReal :=
  Ideal.exp (s j) * (if (rank s j : ℤ) < k.toInt then 1 else 0)

/-- The weighted mean of the nine neighbours of pixel `(i, j)` in channel `c`. -/
def mix (P : Fin 96 → ℕ → ℕ → EReal) (k : BitVec 32) (i j : ℕ) (c : Fin 96) : EReal :=
  ∑ d : Fin 9, wt (sim P i j) k d * Ideal.div 1 (∑ d : Fin 9, wt (sim P i j) k d) * P c (i + d.val / 3) (j + d.val % 3)

/-- The connection count of a pixel, from its difference and the least and greatest difference of the image. -/
def conn (lo hi v : EReal) : EReal :=
  let dp := Ideal.div (v - lo) (hi - lo + Ideal.ofBits .f32 0x322BCC77#32) * Ideal.div (v - lo) (hi - lo + Ideal.ofBits .f32 0x322BCC77#32)
  1 + max (Ideal.liftRound Ideal.roundHalfEven (dp * Ideal.ofBits .f32 0x41700000#32)) 0 * (if Ideal.ofBits .f32 0x3DCCCCCD#32 < dp then 1 else 0)

/-- How many neighbours a pixel is mixed from. -/
def kcount (v : EReal) : BitVec 32 := IntOp.minsi (Ideal.fptosi 32 v) 9#32

/-- The image after the mixing: the weighted mean where the pixel has more than one connection, else the pixel. -/
def mixed (P : Fin 96 → ℕ → ℕ → EReal) (v : EReal) (i j : ℕ) (c : Fin 96) : EReal :=
  if 1 < v then mix P (kcount v) i j c else P c (i + 1) (j + 1)

/-- The least difference of the image. -/
def least (D : Fin 224 → Fin 224 → EReal) : EReal :=
  Finset.univ.fold min (Ideal.ofBits .f32 0x7F800000#32) fun p : Fin 224 × Fin 224 => D p.1 p.2

/-- The greatest difference of the image. -/
def greatest (D : Fin 224 → Fin 224 → EReal) : EReal :=
  Finset.univ.fold max (Ideal.ofBits .f32 0xFF800000#32) fun p : Fin 224 × Fin 224 => D p.1 p.2

/-- The network applied to a pixel's channel vector: the vector plus the second layer of the rectified first layer. -/
def ffn (w1 : Fin 192 → Fin 96 → EReal) (b1 : Fin 192 → EReal) (w2 : Fin 96 → Fin 192 → EReal) (b2 : Fin 96 → EReal)
    (e : Fin 96 → EReal) (o : Fin 96) : EReal :=
  e o + ((∑ k, w2 o k * max (∑ c, w1 k c * e c + b1 k) 0) + b2 o)

/-- The factor of the normalisation from the mean and the mean of squares. -/
def scale (mean ex2 w : EReal) : EReal :=
  Ideal.div w (Ideal.sqrt (ex2 - mean * mean + Ideal.ofBits .f32 0x3727C5AC#32))

/-- The absolute difference, at `(a, b)`, of an image and its product with `M` on the left and `Mt` on the right. -/
def gap (M Mt f : Fin 224 → Fin 224 → EReal) (a b : Fin 224) : EReal :=
  max (f a b - ∑ x, (∑ y, M a y * f y x) * Mt x b) (-(f a b - ∑ x, (∑ y, M a y * f y x) * Mt x b))

end Cert.Spec
-- ==== Proof.SpecLemmas.lean ====
/- Small facts on words and comparisons, and the ranks written out. -/
module

public import proofs.«01_k».proof.Proof.Spec

@[expose] public section

set_option maxRecDepth 16384

noncomputable section

namespace Cert.Spec

open Idealize.ShloMosaic

/-- A sum of eight bits read as words, compared with a word: the sum of the bits compared with its signed value. -/
theorem slt_sum (b0 b1 b2 b3 b4 b5 b6 b7 : BitVec 1) (k : BitVec 32) :
    IntOp.cmpi .slt (IntOp.addi (IntOp.addi (IntOp.addi (IntOp.addi (IntOp.addi (IntOp.addi (IntOp.addi (IntOp.addi 0#32
      (BitVec.setWidth 32 b0)) (BitVec.setWidth 32 b1)) (BitVec.setWidth 32 b2)) (BitVec.setWidth 32 b3)) (BitVec.setWidth 32 b4))
      (BitVec.setWidth 32 b5)) (BitVec.setWidth 32 b6)) (BitVec.setWidth 32 b7)) k
      = BitVec.ofBool (decide (((b0.toNat + b1.toNat + b2.toNat + b3.toNat + b4.toNat + b5.toNat + b6.toNat + b7.toNat : ℕ) : ℤ) < k.toInt)) := by
  have h0 := b0.isLt; have h1 := b1.isLt; have h2 := b2.isLt; have h3 := b3.isLt
  have h4 := b4.isLt; have h5 := b5.isLt; have h6 := b6.isLt; have h7 := b7.isLt
  have e : (0#32 + BitVec.setWidth 32 b0 + BitVec.setWidth 32 b1 + BitVec.setWidth 32 b2 + BitVec.setWidth 32 b3
      + BitVec.setWidth 32 b4 + BitVec.setWidth 32 b5 + BitVec.setWidth 32 b6 + BitVec.setWidth 32 b7).toInt
      = ((b0.toNat + b1.toNat + b2.toNat + b3.toNat + b4.toNat + b5.toNat + b6.toNat + b7.toNat : ℕ) : ℤ) := by
    rw [BitVec.toInt_eq_toNat_of_lt] <;> simp only [BitVec.toNat_add, BitVec.toNat_setWidth, BitVec.toNat_ofNat] <;> omega
  show BitVec.ofBool (BitVec.slt _ k) = _
  rw [BitVec.slt, show (IntOp.addi (IntOp.addi (IntOp.addi (IntOp.addi (IntOp.addi (IntOp.addi (IntOp.addi (IntOp.addi 0#32
      (BitVec.setWidth 32 b0)) (BitVec.setWidth 32 b1)) (BitVec.setWidth 32 b2)) (BitVec.setWidth 32 b3)) (BitVec.setWidth 32 b4))
      (BitVec.setWidth 32 b5)) (BitVec.setWidth 32 b6)) (BitVec.setWidth 32 b7)).toInt = _ from e]

/-- The value of the bit of a decided proposition. -/
theorem toNat_ofBool_decide (p : Prop) [Decidable p] : (BitVec.ofBool (decide p)).toNat = if p then 1 else 0 := by
  by_cases h : p <;> simp [h]

/-- A decided proposition's bit, widened and read as a signed number. -/
theorem sitofp_bit (p : Prop) [Decidable p] :
    FloatOps.sitofp (F := Ideal) .f32 (BitVec.setWidth 32 (BitVec.ofBool (decide p))) = (if p then (1 : EReal) else 0) := by
  by_cases h : p
  · simp only [h, if_true, decide_true]; show (((BitVec.setWidth 32 (BitVec.ofBool true)).toInt : ℝ) : EReal) = 1
    rw [show (BitVec.setWidth 32 (BitVec.ofBool true)).toInt = 1 by decide]; norm_num
  · simp only [h, if_false, decide_false]; show (((BitVec.setWidth 32 (BitVec.ofBool false)).toInt : ℝ) : EReal) = 0
    rw [show (BitVec.setWidth 32 (BitVec.ofBool false)).toInt = 0 by decide]; norm_num

/-- A decided proposition's bit read as an unsigned number. -/
theorem uitofp_bit (p : Prop) [Decidable p] :
    FloatOps.uitofp (F := Ideal) .f32 (BitVec.ofBool (decide p)) = (if p then (1 : EReal) else 0) := by
  by_cases h : p
  · simp only [h, if_true, decide_true]; show (((BitVec.ofBool true).toNat : ℝ) : EReal) = 1
    rw [show (BitVec.ofBool true).toNat = 1 by decide]; norm_num
  · simp only [h, if_false, decide_false]; show (((BitVec.ofBool false).toNat : ℝ) : EReal) = 0
    rw [show (BitVec.ofBool false).toNat = 0 by decide]; norm_num

/-- A sum over the nine neighbours, written out. -/
theorem sum9 {M : Type} [AddCommMonoid M] (f : Fin 9 → M) :
    ∑ d, f d = f 0 + f 1 + f 2 + f 3 + f 4 + f 5 + f 6 + f 7 + f 8 := by
  rw [Fin.sum_univ_castSucc, Fin.sum_univ_eight]; rfl

end Cert.Spec
-- ==== Proof.SimMath.lean ====
/- The similarity of two pixels as an inner product of normalised vectors, and that it is a real number. -/
module

public import proofs.«01_k».proof.Proof.SpecLemmas

@[expose] public section

set_option maxRecDepth 16384

noncomputable section

namespace Cert.Spec

open Idealize.ShloMosaic

/-- `eps` is a positive real number. -/
theorem eps_pos : ∃ e : ℝ, 0 < e ∧ eps = (e : EReal) := by
  refine ⟨1 / 1000000000000 * (9223372 * 2 ^ (-63 : ℤ)) * 1000000000000, by positivity, ?_⟩
  unfold eps
  simp [Ideal.ofBits, Ideal.ieee, -EReal.coe_mul]
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite vector's norm is a positive real; a vector with an infinite entry has norm `⊤`. -/
theorem nrm_cases (v : Fin 96 → EReal) :
    (∃ (r : Fin 96 → ℝ) (n : ℝ), 0 < n ∧ (∀ c, v c = r c) ∧ max (Ideal.sqrt (∑ c, v c * v c)) eps = n)
      ∨ max (Ideal.sqrt (∑ c, v c * v c)) eps = ⊤ := by
  obtain ⟨e, he, hee⟩ := eps_pos
  by_cases h : ∀ c, v c ≠ ⊤ ∧ v c ≠ ⊥
  · left
    refine ⟨fun c => (v c).toReal, max (Real.sqrt (∑ c, (v c).toReal * (v c).toReal)) e, lt_max_of_lt_right he,
      fun c => (EReal.coe_toReal (h c).1 (h c).2).symm, ?_⟩
    have hv : ∀ c, v c = ((v c).toReal : EReal) := fun c => (EReal.coe_toReal (h c).1 (h c).2).symm
    have hs : ∑ c, v c * v c = ((∑ c, (v c).toReal * (v c).toReal : ℝ) : EReal) := by
      rw [coe_sum]; exact Finset.sum_congr rfl fun c _ => by rw [EReal.coe_mul, ← hv c]
    rw [hs, hee, Ideal.sqrt_coe, if_neg (not_lt.2 (Finset.sum_nonneg fun c _ => mul_self_nonneg _))]
    exact (EReal.coe_strictMono.monotone.map_max).symm
  · right
    simp only [not_forall, not_and, not_not] at h
    obtain ⟨c, hc⟩ := h
    have hnn : ∀ x : EReal, 0 ≤ x * x := fun x => by
      rcases le_total 0 x with h0 | h0
      · exact mul_nonneg h0 h0
      · have h1 : 0 ≤ -x := by rw [EReal.le_neg, neg_zero]; exact h0
        have := mul_nonneg h1 h1
        rwa [neg_mul_neg] at this
    have hcc : v c * v c = ⊤ := by
      by_cases ht : v c = ⊤
      · rw [ht]; rfl
      · rw [hc ht]; rfl
    have hs : ∑ c, v c * v c = ⊤ := top_le_iff.1 (hcc ▸ Finset.single_le_sum (f := fun c => v c * v c)
      (fun d _ => hnn _) (Finset.mem_univ c))
    rw [hs, Ideal.sqrt_top]; exact max_eq_left le_top

/-- The inner product of two vectors each divided by its norm is the inner product times both reciprocal norms, and it
    is a real number. -/
theorem cosine (x y : Fin 96 → EReal) :
    (∃ r : ℝ, ∑ c, Ideal.div (x c) (max (Ideal.sqrt (∑ c, x c * x c)) eps) * Ideal.div (y c) (max (Ideal.sqrt (∑ c, y c * y c)) eps) = r)
    ∧ ∑ c, Ideal.div (x c) (max (Ideal.sqrt (∑ c, x c * x c)) eps) * Ideal.div (y c) (max (Ideal.sqrt (∑ c, y c * y c)) eps)
      = (∑ c, y c * x c) * Ideal.div 1 (max (Ideal.sqrt (∑ c, y c * y c)) eps) * Ideal.div 1 (max (Ideal.sqrt (∑ c, x c * x c)) eps) := by
  have htop : ∀ z : EReal, Ideal.div z ⊤ = 0 := fun z => by
    rw [Ideal.div, if_neg (by simp), EReal.inv_top, mul_zero]
  rcases nrm_cases x with ⟨r, n, hn, hr, en⟩ | en
  · rcases nrm_cases y with ⟨q, m, hm, hq, em⟩ | em
    · rw [en, em]
      have e1 : ∑ c, Ideal.div (x c) (n : EReal) * Ideal.div (y c) (m : EReal) = ((∑ c, r c * (1 / n) * (q c * (1 / m)) : ℝ) : EReal) := by
        rw [coe_sum]
        refine Finset.sum_congr rfl fun c _ => ?_
        rw [Ideal.div_coe hn.ne', Ideal.div_coe hm.ne', hr, hq]; norm_cast
      refine ⟨⟨_, e1⟩, ?_⟩
      have e2 : ∑ c, y c * x c = ((∑ c, q c * r c : ℝ) : EReal) := by
        rw [coe_sum]; exact Finset.sum_congr rfl fun c _ => by rw [hr, hq]; norm_cast
      rw [e1, e2, Ideal.div_coe hn.ne', Ideal.div_coe hm.ne', one_mul, one_mul, ← EReal.coe_mul, ← EReal.coe_mul]
      congr 1
      rw [Finset.sum_mul, Finset.sum_mul]
      exact Finset.sum_congr rfl fun c _ => by ring
    · rw [em]
      simp only [htop, mul_zero, zero_mul, Finset.sum_const_zero]
      exact ⟨⟨0, rfl⟩, trivial⟩
  · rw [en]
    simp only [htop, mul_zero, zero_mul, Finset.sum_const_zero]
    exact ⟨⟨0, rfl⟩, trivial⟩

end Cert.Spec
-- ==== Proof.ResMath.lean ====
/- Nonnegative real factors distribute over sums of extended reals, and a product of four matrices with two such factors on
   each side is a product with one on each side. -/
module

public import proofs.«01_k».proof.Proof.SimMath

@[expose] public section

set_option maxRecDepth 16384

noncomputable section

namespace Cert.Spec

open Idealize.ShloMosaic

theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

theorem sum_mul_coe {ι : Type} (s : Finset ι) (c : ℝ) (hc : 0 ≤ c) (f : ι → EReal) :
    (∑ i ∈ s, f i) * (c : EReal) = ∑ i ∈ s, f i * (c : EReal) := by
  rw [mul_comm, coe_mul_sum s c hc]; exact Finset.sum_congr rfl fun i _ => mul_comm _ _

theorem coe_sum_mul {ι : Type} (s : Finset ι) (c : ι → ℝ) (hc : ∀ i, 0 ≤ c i) (x : EReal) :
    ((∑ i ∈ s, c i : ℝ) : EReal) * x = ∑ i ∈ s, (c i : EReal) * x := by
  classical
  induction s using Finset.induction_on with
  | empty => simp
  | insert a s ha ih =>
    rw [Finset.sum_insert ha, Finset.sum_insert ha, EReal.coe_add,
      EReal.right_distrib_of_nonneg (EReal.coe_nonneg.2 (hc a)) (EReal.coe_nonneg.2 (Finset.sum_nonneg fun i _ => hc i)), ih]

/-- Two nonnegative matrices on the left of `f` and two on its right, multiplied from the inside out, are one on either side. -/
theorem four_products {n h : ℕ} (u0 : Fin h → ℝ) (d0 : Fin n → Fin h → ℝ) (d1 : Fin n → Fin h → ℝ) (u1 : Fin h → ℝ)
    (hu0 : ∀ k, 0 ≤ u0 k) (hd0 : ∀ y k, 0 ≤ d0 y k) (hd1 : ∀ y k, 0 ≤ d1 y k) (hu1 : ∀ k, 0 ≤ u1 k)
    (f : Fin n → Fin n → EReal) :
    ∑ l, (∑ k, (u0 k : EReal) * ∑ z, (∑ y, (d0 y k : EReal) * f y z) * (d1 z l : EReal)) * (u1 l : EReal)
      = ∑ z, (∑ y, ((∑ k, u0 k * d0 y k : ℝ) : EReal) * f y z) * ((∑ l, d1 z l * u1 l : ℝ) : EReal) := by
  have hL : ∑ l, (∑ k, (u0 k : EReal) * ∑ z, (∑ y, (d0 y k : EReal) * f y z) * (d1 z l : EReal)) * (u1 l : EReal)
      = ∑ l, ∑ k, ∑ z, ∑ y, (u0 k : EReal) * ((d0 y k : EReal) * f y z * (d1 z l : EReal)) * (u1 l : EReal) := by
    simp only [coe_mul_sum, sum_mul_coe, hu0, hd1, hu1]
  have hR : ∑ z, (∑ y, ((∑ k, u0 k * d0 y k : ℝ) : EReal) * f y z) * ((∑ l, d1 z l * u1 l : ℝ) : EReal)
      = ∑ z, ∑ l, ∑ y, ∑ k, ((u0 k * d0 y k : ℝ) : EReal) * f y z * ((d1 z l * u1 l : ℝ) : EReal) := by
    refine Finset.sum_congr rfl fun z _ => ?_
    rw [mul_comm, coe_sum_mul _ _ fun l => mul_nonneg (hd1 z l) (hu1 l)]
    refine Finset.sum_congr rfl fun l _ => ?_
    rw [mul_comm, sum_mul_coe _ _ (mul_nonneg (hd1 z l) (hu1 l))]
    refine Finset.sum_congr rfl fun y _ => ?_
    rw [coe_sum_mul _ _ fun k => mul_nonneg (hu0 k) (hd0 y k), sum_mul_coe _ _ (mul_nonneg (hd1 z l) (hu1 l))]
  rw [hL, hR, Finset.sum_comm (s := (Finset.univ : Finset (Fin n)))]
  refine Finset.sum_congr rfl fun l _ => ?_
  rw [Finset.sum_comm]
  refine Finset.sum_congr rfl fun z _ => ?_
  rw [Finset.sum_comm]
  refine Finset.sum_congr rfl fun y _ => Finset.sum_congr rfl fun k _ => ?_
  rw [EReal.coe_mul, EReal.coe_mul]
  ac_rfl

end Cert.Spec
-- ==== Proof.NormMath.lean ====
/- The normalisation from the centred variance and from the mean of squares are the same function, also where an entry is
   infinite. -/
module

public import proofs.«01_k».proof.Proof.ResMath

@[expose] public section

set_option maxRecDepth 16384

noncomputable section

namespace Cert.Spec

open Idealize.ShloMosaic

/-- The number added to the variance is a positive real. -/
theorem tiny_pos : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The word of the group's size. -/
theorem size_bits : Ideal.ofBits .f32 0x48130000#32 = ((150528 : ℝ) : EReal) := by
  simp [Ideal.ofBits, Ideal.ieee, -EReal.coe_mul]
  norm_num

theorem mul_self_nonneg' (x : EReal) : 0 ≤ x * x := by
  rcases le_total 0 x with h0 | h0
  · exact mul_nonneg h0 h0
  · have h1 : 0 ≤ -x := by rw [EReal.le_neg, neg_zero]; exact h0
    have := mul_nonneg h1 h1
    rwa [neg_mul_neg] at this

theorem div_top (z : EReal) : Ideal.div z ⊤ = 0 := by rw [Ideal.div, if_neg (by simp), EReal.inv_top, mul_zero]
theorem div_bot (z : EReal) : Ideal.div z ⊥ = 0 := by rw [Ideal.div, if_neg (by simp), EReal.inv_bot, mul_zero]

/-- A sum with an infinite term is infinite. -/
theorem sum_inf {ι : Type} [Fintype ι] (f : ι → EReal) (i0 : ι) (h : f i0 = ⊤ ∨ f i0 = ⊥) : ∑ i, f i = ⊤ ∨ ∑ i, f i = ⊥ := by
  classical
  by_cases hb : ∃ i, f i = ⊥
  · right
    obtain ⟨i, hi⟩ := hb
    rw [← Finset.add_sum_erase _ _ (Finset.mem_univ i), hi, EReal.bot_add]
  · left
    have hne : ∀ s : Finset ι, ∑ i ∈ s, f i ≠ ⊥ := by
      intro s
      induction s using Finset.induction_on with
      | empty => simp
      | insert a s ha ih =>
        rw [Finset.sum_insert ha]
        intro h
        rcases EReal.add_eq_bot_iff.1 h with h | h
        · exact hb ⟨a, h⟩
        · exact ih h
    rcases h with h | h
    · rw [← Finset.add_sum_erase _ _ (Finset.mem_univ i0), h, EReal.top_add_of_ne_bot (hne _)]
    · exact absurd ⟨i0, h⟩ hb

theorem sum_top {ι : Type} [Fintype ι] (f : ι → EReal) (h0 : ∀ i, 0 ≤ f i) (i0 : ι) (h : f i0 = ⊤) : ∑ i, f i = ⊤ :=
  top_le_iff.1 (h ▸ Finset.single_le_sum (f := f) (fun d _ => h0 d) (Finset.mem_univ i0))

/-- The normalised entry: centred and divided by the root of the centred variance, or by the factor from the mean of squares. -/
theorem norm_eq {ι : Type} [Fintype ι] (hcard : Fintype.card ι = 150528) (f : ι → EReal) (p : ι) (w b : EReal)
    (hw : ∃ r : ℝ, w = r) :
    Ideal.div (f p - Ideal.div (∑ i, f i) ((150528 : ℝ) : EReal))
        (Ideal.sqrt (Ideal.div (∑ i, (f i - Ideal.div (∑ i, f i) ((150528 : ℝ) : EReal)) * (f i - Ideal.div (∑ i, f i) ((150528 : ℝ) : EReal)))
          ((150528 : ℝ) : EReal) + Ideal.ofBits .f32 0x3727C5AC#32)) * w + b
      = f p * scale (((1 / 150528 : ℝ) : EReal) * ∑ i, f i) (((1 / 150528 : ℝ) : EReal) * ∑ i, f i * f i) w
        + (b - (((1 / 150528 : ℝ) : EReal) * ∑ i, f i) * scale (((1 / 150528 : ℝ) : EReal) * ∑ i, f i) (((1 / 150528 : ℝ) : EReal) * ∑ i, f i * f i) w) := by
  obtain ⟨e, he, hee⟩ := tiny_pos
  have hN : (150528 : ℝ) ≠ 0 := by norm_num
  rw [hee]
  unfold scale
  rw [hee]
  by_cases hf : ∀ i, f i ≠ ⊤ ∧ f i ≠ ⊥
  · obtain ⟨r, hr⟩ : ∃ r : ι → ℝ, ∀ i, f i = r i := ⟨fun i => (f i).toReal, fun i => (EReal.coe_toReal (hf i).1 (hf i).2).symm⟩
    obtain ⟨v, rfl⟩ := hw
    have hS : ∑ i, f i = ((∑ i, r i : ℝ) : EReal) := by rw [coe_sum]; exact Finset.sum_congr rfl fun i _ => hr i
    have hQ : ∑ i, f i * f i = ((∑ i, r i * r i : ℝ) : EReal) := by
      rw [coe_sum]; exact Finset.sum_congr rfl fun i _ => by rw [hr i, EReal.coe_mul]
    have hμ : Ideal.div (∑ i, f i) ((150528 : ℝ) : EReal) = (((∑ i, r i) * (1 / 150528) : ℝ) : EReal) := by
      rw [Ideal.div_coe hN, hS, EReal.coe_mul]
    rw [hμ]
    have hV : ∑ i, (f i - (((∑ i, r i) * (1 / 150528) : ℝ) : EReal)) * (f i - (((∑ i, r i) * (1 / 150528) : ℝ) : EReal))
        = ((∑ i, (r i - (∑ i, r i) * (1 / 150528)) * (r i - (∑ i, r i) * (1 / 150528)) : ℝ) : EReal) := by
      rw [coe_sum]; exact Finset.sum_congr rfl fun i _ => by rw [hr i, EReal.coe_mul (_ - _), EReal.coe_sub]
    have hreal : (1 / 150528 : ℝ) * (∑ i, r i * r i) - (1 / 150528 * ∑ i, r i) * (1 / 150528 * ∑ i, r i)
        = (∑ i, (r i - (∑ i, r i) * (1 / 150528)) * (r i - (∑ i, r i) * (1 / 150528))) * (1 / 150528) := by
      have hc : ∑ i : ι, (1 : ℝ) = 150528 := by rw [Finset.sum_const, Finset.card_univ, hcard]; norm_num
      generalize hs : ∑ i, r i = S
      have h1 : ∑ i, (r i - S * (1 / 150528)) * (r i - S * (1 / 150528))
          = ∑ i, r i * r i - 2 * (S * (1 / 150528)) * S + (S * (1 / 150528)) * (S * (1 / 150528)) * 150528 := by
        rw [← hc, Finset.mul_sum, ← hs, Finset.mul_sum, ← Finset.sum_sub_distrib, ← Finset.sum_add_distrib]
        exact Finset.sum_congr rfl fun i _ => by ring
      rw [h1]; ring
    rw [hV, hS, hQ, Ideal.div_coe hN, hr p]
    simp only [← EReal.coe_mul, ← EReal.coe_sub, ← EReal.coe_add]
    rw [hreal]
    have hv0 : 0 ≤ (∑ i, (r i - (∑ i, r i) * (1 / 150528)) * (r i - (∑ i, r i) * (1 / 150528))) * (1 / 150528) :=
      mul_nonneg (Finset.sum_nonneg fun i _ => mul_self_nonneg _) (by norm_num)
    generalize (∑ i, (r i - (∑ i, r i) * (1 / 150528)) * (r i - (∑ i, r i) * (1 / 150528))) * (1 / 150528) = q at hv0
    rw [Ideal.sqrt_coe, if_neg (not_lt.2 (by linarith))]
    have hσ : Real.sqrt (q + e) ≠ 0 := (Real.sqrt_pos.2 (by linarith)).ne'
    rw [Ideal.div_coe hσ, Ideal.div_coe hσ]
    simp only [← EReal.coe_mul]
    rw [sub_eq_add_neg b, ← EReal.coe_neg, add_comm b, ← add_assoc, ← EReal.coe_add]
    congr 2
    ring
  · have hi : ∃ i, f i = ⊤ ∨ f i = ⊥ := by
      by_contra hc
      exact hf fun i => ⟨fun h => hc ⟨i, Or.inl h⟩, fun h => hc ⟨i, Or.inr h⟩⟩
    obtain ⟨i0, hi0⟩ := hi
    have hκ : (0 : ℝ) < 1 / 150528 := by norm_num
    have hμ : Ideal.div (∑ i, f i) ((150528 : ℝ) : EReal) = ((1 / 150528 : ℝ) : EReal) * ∑ i, f i := by
      rw [Ideal.div_coe hN, mul_comm]
    rw [hμ]
    have hm : ((1 / 150528 : ℝ) : EReal) * ∑ i, f i = ⊤ ∨ ((1 / 150528 : ℝ) : EReal) * ∑ i, f i = ⊥ := by
      rcases sum_inf f i0 hi0 with h | h
      · left; rw [h, EReal.coe_mul_top_of_pos hκ]
      · right; rw [h, EReal.coe_mul_bot_of_pos hκ]
    generalize ((1 / 150528 : ℝ) : EReal) * ∑ i, f i = m at hm
    have hd : ∀ i, (f i - m) * (f i - m) = ⊤ := by
      intro i
      have : f i - m = ⊤ ∨ f i - m = ⊥ := by
        rcases hm with h | h
        · right; rw [h, sub_eq_add_neg, EReal.neg_top, EReal.add_bot]
        · by_cases hb : f i = ⊥
          · right; rw [hb, sub_eq_add_neg, EReal.bot_add]
          · left; rw [h, sub_eq_add_neg, EReal.neg_bot, EReal.add_top_of_ne_bot hb]
      rcases this with h | h <;> rw [h] <;> rfl
    have hV : ∑ i, (f i - m) * (f i - m) = ⊤ := sum_top _ (fun i => mul_self_nonneg' _) i0 (hd i0)
    have hQ : ∑ i, f i * f i = ⊤ := sum_top _ (fun i => mul_self_nonneg' _) i0 (by rcases hi0 with h | h <;> rw [h] <;> rfl)
    have hmm : m * m = ⊤ := by rcases hm with h | h <;> rw [h] <;> rfl
    rw [hV, hQ, Ideal.div_coe hN, EReal.top_mul_coe_of_pos hκ, EReal.top_add_coe, Ideal.sqrt_top, div_top, zero_mul, zero_add,
      EReal.coe_mul_top_of_pos hκ, hmm]
    rw [show (⊤ : EReal) - ⊤ = ⊥ from rfl, EReal.bot_add, Ideal.sqrt_bot, div_bot, mul_zero, mul_zero, zero_add, sub_zero]

/-- A sum weighted by `κ` over the channels of one group of three. -/
theorem group_sum (s : Fin 96 → EReal) (κ : ℝ) (hκ : 0 ≤ κ) (c : Fin 96) :
    ∑ j : Fin 96, (if c.val / 3 = j.val / 3 then (1 : EReal) else 0) * (κ : EReal) * s j
      = (κ : EReal) * ∑ x : Fin 3, s ⟨c.val / 3 * 3 + x.val, by omega⟩ := by
  have h : ∀ j : Fin 96, (if c.val / 3 = j.val / 3 then (1 : EReal) else 0) * (κ : EReal) * s j
      = (κ : EReal) * (if c.val / 3 = j.val / 3 then s j else 0) := fun j => by split <;> simp
  simp only [h]
  rw [← coe_mul_sum _ κ hκ]
  congr 1
  rw [← Finset.sum_filter]
  refine Finset.sum_bij' (fun j _ => (⟨j.val % 3, by omega⟩ : Fin 3)) (fun x _ => (⟨c.val / 3 * 3 + x.val, by omega⟩ : Fin 96)) ?_ ?_ ?_ ?_ ?_
  · intro j _; exact Finset.mem_univ _
  · intro x _; simp only [Finset.mem_filter, Finset.mem_univ, true_and]; omega
  · intro j hj; simp only [Finset.mem_filter, Finset.mem_univ, true_and] at hj; apply Fin.ext; simp only; omega
  · intro x _; apply Fin.ext; simp only; omega
  · intro j hj
    simp only [Finset.mem_filter, Finset.mem_univ, true_and] at hj
    congr 1; apply Fin.ext; simp only; omega

end Cert.Spec
-- ==== Proof.NormCommon.lean ====
/- The group normalisation of an image of 96 channels in groups of three: centred variance against mean of squares. -/
module

public import proofs.«01_k».proof.Proof.NormMath

@[expose] public section

set_option maxRecDepth 16384

noncomputable section

namespace Cert.Spec

open Idealize.ShloMosaic

/-- The sum over the group of channel `c`. -/
def gtot (F : Fin 96 → Fin 224 → Fin 224 → EReal) (c : Fin 96) : EReal :=
  ∑ k : Fin 3, ∑ a, ∑ b, F ⟨c.val / 3 * 3 + k.val, by omega⟩ a b

/-- The entry normalised from the group's mean and centred variance, times `w`, plus `b`. -/
def centred (X : Fin 96 → Fin 224 → Fin 224 → EReal) (w b : EReal) (c : Fin 96) (i j : Fin 224) : EReal :=
  Ideal.div (X c i j - Ideal.div (gtot X c) ((150528 : ℝ) : EReal))
    (Ideal.sqrt (Ideal.div (∑ k : Fin 3, ∑ a, ∑ b,
        (X ⟨c.val / 3 * 3 + k.val, by omega⟩ a b - Ideal.div (gtot X c) ((150528 : ℝ) : EReal))
        * (X ⟨c.val / 3 * 3 + k.val, by omega⟩ a b - Ideal.div (gtot X c) ((150528 : ℝ) : EReal))) ((150528 : ℝ) : EReal)
      + Ideal.ofBits .f32 0x3727C5AC#32)) * w + b

/-- The entry normalised by the factor from the group's mean and mean of squares. -/
theorem centred_eq (X : Fin 96 → Fin 224 → Fin 224 → EReal) (w b : EReal) (hw : ∃ r : ℝ, w = r) (c : Fin 96) (i j : Fin 224) :
    centred X w b c i j
      = X c i j * scale (((1 / 150528 : ℝ) : EReal) * gtot X c) (((1 / 150528 : ℝ) : EReal) * gtot (fun k a b => X k a b * X k a b) c) w
        + (b - (((1 / 150528 : ℝ) : EReal) * gtot X c)
          * scale (((1 / 150528 : ℝ) : EReal) * gtot X c) (((1 / 150528 : ℝ) : EReal) * gtot (fun k a b => X k a b * X k a b) c) w) := by
  have h := norm_eq (ι := Fin 3 × Fin 224 × Fin 224) (by simp [Fintype.card_prod])
    (fun q => X ⟨c.val / 3 * 3 + q.1.val, by omega⟩ q.2.1 q.2.2) (⟨c.val % 3, by omega⟩, i, j) w b hw
  simp only [Fintype.sum_prod_type] at h
  have e : (⟨c.val / 3 * 3 + c.val % 3, by omega⟩ : Fin 96) = c := Fin.ext (by show c.val / 3 * 3 + c.val % 3 = c.val; omega)
  rw [e] at h
  exact h

end Cert.Spec
-- ==== Proof.TabRows.lean ====
/- The entries of the kernel's tables in closed form, as numbers of eighths, and the checks that run through a table's rows. -/
module

public import proofs.«01_k».proof.Proof.Spec

@[expose] public section

set_option maxRecDepth 16384

namespace Cert.Spec

/-- Four times the triangle weight of entry `k` of the smaller grid at entry `a` of the larger. -/
def tri4 (k a : ℕ) : ℕ := if 2 * a = 4 * k + 2 ∨ 2 * a = 4 * k then 3 else if 2 * a = 4 * k + 4 ∨ 2 * a + 2 = 4 * k then 1 else 0

/-- Four times the weight with which entry `k` of the smaller grid enters entry `a` of the larger: the triangle weight,
    normalised at the two ends. -/
def up4 (k a : ℕ) : ℕ :=
  if a = 0 then (if k = 0 then 4 else 0) else if a = 223 then (if k = 111 then 4 else 0) else tri4 k a

/-- The word of a number of eighths, `0`, `1`, `3` or `4`. -/
def word8 (n : ℕ) : ℕ :=
  cond (Nat.beq n 0) 0 (cond (Nat.beq n 1) 0x3E000000 (cond (Nat.beq n 3) 0x3EC00000 0x3F000000))

/-- Whether `p` holds of every number below `n`. -/
def allBelow (p : ℕ → Bool) (n : ℕ) : Bool := Nat.rec true (fun k ih => cond (p k) ih false) n

theorem allBelow_spec (p : ℕ → Bool) (n : ℕ) (h : allBelow p n = true) : ∀ k, k < n → p k = true := by
  induction n with
  | zero => intro k hk; omega
  | succ n ih =>
    have h' : cond (p n) (allBelow p n) false = true := h
    intro k hk
    cases hp : p n with
    | false => rw [hp] at h'; exact absurd h' (by simp)
    | true =>
      rw [hp] at h'
      rcases Nat.lt_succ_iff_lt_or_eq.mp hk with hk | rfl
      · exact ih h' k hk
      · exact hp

/-- Whether the table's rows `a0` to `a0 + n - 1`, of `w` entries each, hold the words `f`. -/
def rowsAre (t : ℕ → BitVec 32) (f : ℕ → ℕ → ℕ) (w a0 n : ℕ) : Bool :=
  allBelow (fun a => allBelow (fun y => Nat.beq (t ((a0 + a) * w + y)).toNat (f (a0 + a) y)) w) n

theorem rowsAre_spec (t : ℕ → BitVec 32) (f : ℕ → ℕ → ℕ) (w a0 n : ℕ) (h : rowsAre t f w a0 n = true) (a y : ℕ)
    (ha : a0 ≤ a) (ha' : a < a0 + n) (hy : y < w) : t (a * w + y) = BitVec.ofNat 32 (f a y) := by
  have h1 := allBelow_spec _ _ (allBelow_spec _ _ h (a - a0) (by omega)) y hy
  rw [show a0 + (a - a0) = a by omega] at h1
  have h2 := Nat.eq_of_beq_eq_true h1
  rw [← h2, BitVec.ofNat_toNat, BitVec.setWidth_eq]

end Cert.Spec
-- ==== Proof.Eighths.lean ====
/- The resampling down by two and up again as one matrix, whose entries are eighths. -/
module

public import proofs.«01_k».proof.Proof.TabRows
public import proofs.«01_k».proof.Proof.ResMath

@[expose] public section

set_option maxRecDepth 16384

noncomputable section

namespace Cert.Spec

open Idealize.ShloMosaic

/-- The weight with which entry `y` enters entry `a` when a row is resampled to half its length and back. -/
def half (a y : Fin 224) : EReal := ((up4 (y.val / 2) a.val / 8 : ℝ) : EReal)

/-- The triangle weight over the sum of the column's weights. -/
theorem up4_eq (k : Fin 112) (a : Fin 224) :
    (tri4 k.val a.val / 4 : ℝ) / (if a.val = 0 ∨ a.val = 223 then 3 / 4 else 1) = up4 k.val a.val / 4 := by
  by_cases h : a.val = 0 ∨ a.val = 223
  · have e : 4 * tri4 k.val a.val = 3 * up4 k.val a.val := by
      rcases h with h | h <;> rw [h] <;> clear h <;> revert k
      · exact (by decide : ∀ k : Fin 112, 4 * tri4 k.val 0 = 3 * up4 k.val 0)
      · exact (by decide : ∀ k : Fin 112, 4 * tri4 k.val 223 = 3 * up4 k.val 223)
    have e' : 4 * (tri4 k.val a.val : ℝ) = 3 * up4 k.val a.val := by exact_mod_cast e
    rw [if_pos h]; linarith
  · rw [if_neg h, up4, if_neg (fun e => h (Or.inl e)), if_neg (fun e => h (Or.inr e)), div_one]

/-- The two steps' weights multiplied and summed over the shorter row. -/
theorem half_sum (a y : Fin 224) :
    ((∑ k : Fin 112, (up4 k.val a.val / 4 : ℝ) * (if y.val / 2 = k.val then 1 / 2 else 0) : ℝ) : EReal) = half a y := by
  unfold half
  congr 1
  rw [Finset.sum_eq_single (⟨y.val / 2, by omega⟩ : Fin 112)]
  · rw [if_pos rfl]; ring
  · intro k _ hk
    rw [if_neg (fun e => hk (Fin.ext e.symm)), mul_zero]
  · intro h; exact absurd (Finset.mem_univ _) h

/-- An image resampled to half its size, rows first, and back, rows first. -/
theorem resample (f : Fin 224 → Fin 224 → EReal) (i j : Fin 224) :
    ∑ l : Fin 112, (∑ k : Fin 112, ((up4 k.val i.val / 4 : ℝ) : EReal) * ∑ z, (∑ y : Fin 224, ((if y.val / 2 = k.val then 1 / 2 else 0 : ℝ) : EReal) * f y z)
        * ((if z.val / 2 = l.val then 1 / 2 else 0 : ℝ) : EReal)) * ((up4 l.val j.val / 4 : ℝ) : EReal)
      = ∑ z, (∑ y, half i y * f y z) * half j z := by
  rw [four_products (fun k : Fin 112 => (up4 k.val i.val / 4 : ℝ)) (fun y k => if y.val / 2 = k.val then 1 / 2 else 0)
    (fun z l => if z.val / 2 = l.val then 1 / 2 else 0) (fun l => (up4 l.val j.val / 4 : ℝ)) (fun k => by positivity)
    (fun y k => by split <;> norm_num) (fun y k => by split <;> norm_num) (fun k => by positivity) f]
  simp only [half_sum]
  refine Finset.sum_congr rfl fun z _ => ?_
  rw [← half_sum j z]
  congr 2
  exact Finset.sum_congr rfl fun l _ => mul_comm _ _

end Cert.Spec
-- ==== Proof.Common.lean ====
/- The function both programs compute: the mixed neighbours plus the group normalisation, through the network. -/
module

public import proofs.«01_k».proof.Proof.NormCommon
public import proofs.«01_k».proof.Proof.Eighths

@[expose] public section

set_option maxRecDepth 16384

noncomputable section

namespace Cert.Spec

open Idealize.ShloMosaic

/-- The difference of the image and its resampled copy, summed over the channels. -/
def dm (X : Fin 96 → Fin 224 → Fin 224 → EReal) (a b : Fin 224) : EReal :=
  ∑ ch : Fin 96, gap half (fun x b => half b x) (X ch) a b

/-- The whole function, at channel `o` of pixel `(i, j)`. -/
def whole (X : Fin 96 → Fin 224 → Fin 224 → EReal) (w b : Fin 96 → EReal) (w1 : Fin 192 → Fin 96 → EReal) (b1 : Fin 192 → EReal)
    (w2 : Fin 96 → Fin 192 → EReal) (b2 : Fin 96 → EReal) (o : Fin 96) (i j : Fin 224) : EReal :=
  ffn w1 b1 w2 b2 (fun ch => mixed (pd X) (conn (least (dm X)) (greatest (dm X)) (dm X i j)) i.val j.val ch + centred X (w ch) (b ch) ch i j) o

theorem pd_succ (X : Fin 96 → Fin 224 → Fin 224 → EReal) (c : Fin 96) (i j : Fin 224) : pd X c (i.val + 1) (j.val + 1) = X c i j := by
  unfold pd
  rw [dif_pos (by omega)]
  rfl

end Cert.Spec
-- ==== Proof.RefSim.lean ====
/-
  What the reference's similarities are, at coordinates.
-/
module

public import proofs.«01_k».proof.Proof.Gen.ReferenceIdeal.Run
public import proofs.«01_k».proof.Proof.SimMath

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

/-- The image, by channel. -/
def X (ch : Fin 96) (i j : Fin 224) : EReal := (V0 (Proc.devRef .tc main_arg0) : FVec Ideal S1x96x224x224 .f32) (ix4 0 ch i j)

/-- An image with a frame of `v` one pixel wide: inside the frame the image, moved by one. -/
theorem pad_at (x : FVec Ideal S1x96x224x224 .f32) (v : FVec Ideal S_ .f32) (hp : S1x96x224x224.Pads ![0, 0, 1, 1] ![0, 0, 1, 1] ![0, 0, 0, 0] S1x96x226x226)
    (hu : 0 < S_.numel) (c : Fin 96) (i j : Fin 226) :
    pad S1x96x226x226 ![0, 0, 1, 1] ![0, 0, 1, 1] ![0, 0, 0, 0] x v hp hu (ix4 0 c i j)
      = if h : (1 ≤ i.val ∧ i.val ≤ 224) ∧ (1 ≤ j.val ∧ j.val ≤ 224) then x (ix4 0 c ⟨i.val - 1, by omega⟩ ⟨j.val - 1, by omega⟩)
        else v (Shape.Idx.first hu) := by
  by_cases h : (1 ≤ i.val ∧ i.val ≤ 224) ∧ (1 ≤ j.val ∧ j.val ≤ 224)
  · rw [dif_pos h]
    unfold pad
    rw [dif_pos (fun a => by
      match a with
      | 0 => exact ⟨Nat.zero_le _, Nat.mod_one _, by show (0 - 0) / 1 < 1; omega⟩
      | 1 => exact ⟨Nat.zero_le _, Nat.mod_one _, by show (c.val - 0) / 1 < 96; omega⟩
      | 2 => exact ⟨h.1.1, Nat.mod_one _, by show (i.val - 1) / 1 < 224; omega⟩
      | 3 => exact ⟨h.2.1, Nat.mod_one _, by show (j.val - 1) / 1 < 224; omega⟩)]
    congr 1
    funext a
    match a with
    | 0 => exact Fin.ext (Nat.div_one _)
    | 1 => exact Fin.ext (Nat.div_one _)
    | 2 => exact Fin.ext (Nat.div_one _)
    | 3 => exact Fin.ext (Nat.div_one _)
  · rw [dif_neg h]
    unfold pad
    rw [dif_neg]
    intro hin
    have h2 := hin 2
    have h3 := hin 3
    have e2 : 1 ≤ i.val ∧ (i.val - 1) / 1 < 224 := ⟨h2.1, h2.2.2⟩
    have e3 : 1 ≤ j.val ∧ (j.val - 1) / 1 < 224 := ⟨h3.1, h3.2.2⟩
    apply h
    omega

/-- The image with a frame of zeros. -/
theorem v33_at (c : Fin 96) (i j : Fin 226) : (res_main_v33 V0 : FVec Ideal S1x96x226x226 .f32) (ix4 0 c i j) = Spec.pd (X V0) c i j := by
  have h := pad_at (V0 (Proc.devRef .tc main_arg0)) (sitofp .f32 (constantI S_ 32 0#32)) pads_S1x96x224x224_S1x96x226x226_000_000_110_110 h_S_ c i j
  refine h.trans ?_
  unfold Spec.pd X
  have hz : (sitofp (F := Ideal) .f32 (constantI S_ 32 0#32) : FVec Ideal S_ .f32) (Shape.Idx.first h_S_) = (0 : EReal) := by
    show (((0#32 : BitVec 32).toInt : ℝ) : EReal) = 0
    simp
  rw [hz]

/-- The neighbours of each pixel. -/
theorem v53_at (c : Fin 96) (d : Fin 9) (p : Fin 50176) : (res_main_v53 V0 : FVec Ideal S1x96x9x50176 .f32) (ix4 0 c d p) = Spec.pd (X V0) c (p.val / 224 + d.val / 3) (p.val % 224 + d.val % 3) := by
  pointwise [res_main_v53, v33_at]
  obtain ⟨d, hd⟩ := d
  interval_cases d <;> simp <;> congr 1 <;> omega

/-- The pixels themselves. -/
theorem v54_at (c : Fin 96) (p : Fin 50176) : (res_main_v54 V0 : FVec Ideal S1x96x50176 .f32) (ix3 0 c p) = Spec.pd (X V0) c (p.val / 224 + 1) (p.val % 224 + 1) := by
  pointwise [res_main_v54]
  unfold Spec.pd
  rw [dif_pos (by omega)]
  rfl

/-- The similarities. -/
theorem v65_at (p : Fin 50176) (d : Fin 9) : (res_main_v65 V0 : FVec Ideal S1x50176x9 .f32) (ix3 0 p d)
    = ∑ c, Ideal.div (Spec.pd (X V0) c (p.val / 224 + d.val / 3) (p.val % 224 + d.val % 3)) (Spec.nrm (Spec.pd (X V0)) (p.val / 224 + d.val / 3) (p.val % 224 + d.val % 3))
        * Ideal.div (Spec.pd (X V0) c (p.val / 224 + 1) (p.val % 224 + 1)) (Spec.nrm (Spec.pd (X V0)) (p.val / 224 + 1) (p.val % 224 + 1)) := by
  pointwise [res_main_v65, v53_at, v54_at]
  rw [show (id (constant S_ .f32 730643660#32) : FVec Ideal S_ .f32) ix0 = Spec.eps from rfl]
  unfold Spec.nrm
  simp only [max_comm Spec.eps]

/-- The similarities of a pixel, in the kernel's form, and that they are real numbers. -/
theorem v65_sim (p : Fin 50176) (d : Fin 9) : (res_main_v65 V0 : FVec Ideal S1x50176x9 .f32) (ix3 0 p d)
    = Spec.sim (Spec.pd (X V0)) (p.val / 224) (p.val % 224) d := by
  rw [v65_at]
  exact (Spec.cosine _ _).2

theorem sim_real (P : Fin 96 → ℕ → ℕ → EReal) (i j : ℕ) (d : Fin 9) : ∃ r : ℝ, Spec.sim P i j d = r := by
  obtain ⟨h1, h2⟩ := Spec.cosine (fun c => P c (i + d.val / 3) (j + d.val % 3)) (fun c => P c (i + 1) (j + 1))
  rw [h2] at h1
  exact h1

end Cert.ReferenceIdeal.Read
-- ==== Proof.RefRes.lean ====
/-
  What the reference's resampling is, at coordinates.
-/
module

public import proofs.«01_k».proof.Proof.Gen.ReferenceIdeal.Run
public import proofs.«01_k».proof.Proof.RefSim
public import proofs.«01_k».proof.Proof.Eighths

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

theorem sitofp_nat (n : ℕ) (h : n < 2147483648) : FloatOps.sitofp (F := Ideal) .f32 (BitVec.ofNat 32 n) = ((n : ℝ) : EReal) := by
  show (((BitVec.ofNat 32 n).toInt : ℝ) : EReal) = ((n : ℝ) : EReal)
  have e : (BitVec.ofNat 32 n).toNat = n := by rw [BitVec.toNat_ofNat]; omega
  rw [BitVec.toInt_eq_toNat_of_lt (by omega), e]
  norm_cast

theorem half_bits : Ideal.ofBits .f32 0x3F000000#32 = ((1 / 2 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem absf_coe (r : ℝ) : FloatOps.absf (F := Ideal) (φ := .f32) (r : EReal) = ((|r| : ℝ) : EReal) := by
  show max (r : EReal) (-(r : EReal)) = _
  rw [abs_eq_max_neg, EReal.coe_strictMono.monotone.map_max, EReal.coe_neg]

/-- The triangle weight at the distance of two reals. -/
theorem triangle (a b : ℝ) :
    max 0 (1 - FloatOps.absf (F := Ideal) (φ := .f32) (Ideal.div (FloatOps.absf (F := Ideal) (φ := .f32) ((a : EReal) - (b : EReal))) 1))
      = ((max 0 (1 - |a - b|) : ℝ) : EReal) := by
  rw [← EReal.coe_sub, absf_coe, show (1 : EReal) = ((1 : ℝ) : EReal) from rfl, Ideal.div_coe one_ne_zero, ← EReal.coe_mul, absf_coe,
    ← EReal.coe_sub, EReal.coe_strictMono.monotone.map_max, EReal.coe_zero, one_div_one, mul_one, abs_abs]

theorem c0v8_at (i : Fin 112) : res_main_call0_v8 V0 (ix1 i) = ((2 * i.val + 1 / 2 : ℝ) : EReal) := by
  pointwise [res_main_call0_v8]
  rw [sitofp_nat _ (by omega), half_bits, two_bits, ← EReal.coe_add, ← EReal.coe_mul, ← EReal.coe_sub]
  congr 1; ring

theorem c0v22_at (i : Fin 224) (j : Fin 112) : res_main_call0_v22 V0 (ix2 i j) = ((if i.val / 2 = j.val then 1 / 2 else 0 : ℝ) : EReal) := by
  pointwise [res_main_call0_v22]
  rw [c0v8_at, sitofp_nat _ (by omega), triangle]
  congr 1
  by_cases h : i.val / 2 = j.val
  · rw [if_pos h]
    rcases (by omega : i.val = 2 * j.val ∨ i.val = 2 * j.val + 1) with e | e
    · rw [e]; push_cast
      rw [show (2 * (j.val : ℝ) + 1 / 2 - 2 * (j.val : ℝ)) = 1 / 2 by ring, abs_of_pos (by norm_num)]; norm_num
    · rw [e]; push_cast
      rw [show (2 * (j.val : ℝ) + 1 / 2 - (2 * (j.val : ℝ) + 1)) = -(1 / 2) by ring, abs_neg, abs_of_pos (by norm_num)]; norm_num
  · rw [if_neg h]
    refine max_eq_left ?_
    rcases (by omega : i.val + 1 ≤ 2 * j.val ∨ 2 * j.val + 2 ≤ i.val) with e | e
    · have e' : (i.val : ℝ) + 1 ≤ 2 * j.val := by exact_mod_cast e
      have := le_abs_self (2 * (j.val : ℝ) + 1 / 2 - i.val)
      linarith
    · have e' : 2 * (j.val : ℝ) + 2 ≤ i.val := by exact_mod_cast e
      have := neg_abs_le (2 * (j.val : ℝ) + 1 / 2 - i.val)
      linarith

theorem pairs_sum : ∀ j : Fin 112, ∑ x : Fin 224, (if x.val / 2 = j.val then 1 else 0) = 2 := by decide +kernel

theorem c0v24_at (j : Fin 112) : res_main_call0_v24 V0 (ix2 0 j) = (((1 : ℝ) : EReal)) := by
  pointwise [res_main_call0_v24, c0v22_at]
  rw [← Spec.coe_sum]
  congr 1
  have h : ((∑ x : Fin 224, (if x.val / 2 = j.val then 1 else 0) : ℕ) : ℝ) = 2 := by exact_mod_cast pairs_sum j
  have h2 : ∀ x : Fin 224, (if x.val / 2 = j.val then 1 / 2 else 0 : ℝ) = ((if x.val / 2 = j.val then 1 else 0 : ℕ) : ℝ) * (1 / 2) := fun x => by
    split <;> simp
  simp only [h2]
  rw [← Finset.sum_mul, ← Nat.cast_sum, h]
  norm_num

theorem c2v8_at (i : Fin 224) : res_main_call2_v8 V0 (ix1 i) = ((i.val / 2 - 1 / 4 : ℝ) : EReal) := by
  pointwise [res_main_call2_v8]
  rw [sitofp_nat _ (by omega), half_bits, ← EReal.coe_add, ← EReal.coe_mul, ← EReal.coe_sub]
  congr 1; ring

theorem c2v22_at (i : Fin 112) (j : Fin 224) : res_main_call2_v22 V0 (ix2 i j) = ((Spec.tri4 i.val j.val / 4 : ℝ) : EReal) := by
  pointwise [res_main_call2_v22]
  rw [c2v8_at, sitofp_nat _ (by omega), triangle]
  congr 1
  unfold Spec.tri4
  by_cases h : 2 * j.val = 4 * i.val + 2 ∨ 2 * j.val = 4 * i.val
  · rw [if_pos h]
    rcases (by omega : j.val = 2 * i.val ∨ j.val = 2 * i.val + 1) with e | e
    · rw [e]; push_cast
      rw [show (2 * (i.val : ℝ) / 2 - 1 / 4 - i.val) = -(1 / 4) by ring, abs_neg, abs_of_pos (by norm_num)]; norm_num
    · rw [e]; push_cast
      rw [show ((2 * (i.val : ℝ) + 1) / 2 - 1 / 4 - i.val) = 1 / 4 by ring, abs_of_pos (by norm_num)]; norm_num
  · rw [if_neg h]
    by_cases h' : 2 * j.val = 4 * i.val + 4 ∨ 2 * j.val + 2 = 4 * i.val
    · rw [if_pos h']
      rcases (by omega : j.val = 2 * i.val + 2 ∨ j.val + 1 = 2 * i.val) with e | e
      · rw [e]; push_cast
        rw [show ((2 * (i.val : ℝ) + 2) / 2 - 1 / 4 - i.val) = 3 / 4 by ring, abs_of_pos (by norm_num)]; norm_num
      · have e' : (j.val : ℝ) = 2 * i.val - 1 := by have : (j.val : ℝ) + 1 = 2 * i.val := by exact_mod_cast e
                                                    linarith
        rw [e']
        rw [show ((2 * (i.val : ℝ) - 1) / 2 - 1 / 4 - i.val) = -(3 / 4) by ring, abs_neg, abs_of_pos (by norm_num)]; norm_num
    · rw [if_neg h', Nat.cast_zero, zero_div]
      refine max_eq_left ?_
      rcases (by omega : 2 * i.val + 3 ≤ j.val ∨ j.val + 2 ≤ 2 * i.val) with e | e
      · have e' : 2 * (i.val : ℝ) + 3 ≤ j.val := by exact_mod_cast e
        have := le_abs_self ((j.val : ℝ) / 2 - 1 / 4 - i.val)
        linarith
      · have e' : (j.val : ℝ) + 2 ≤ 2 * i.val := by exact_mod_cast e
        have := neg_abs_le ((j.val : ℝ) / 2 - 1 / 4 - i.val)
        linarith

theorem tri_sum : ∀ j : Fin 224, ∑ x : Fin 112, Spec.tri4 x.val j.val = if j.val = 0 ∨ j.val = 223 then 3 else 4 := by decide +kernel

theorem c2v24_at (j : Fin 224) : res_main_call2_v24 V0 (ix2 0 j) = ((if j.val = 0 ∨ j.val = 223 then 3 / 4 else 1 : ℝ) : EReal) := by
  pointwise [res_main_call2_v24, c2v22_at]
  rw [← Spec.coe_sum]
  congr 1
  rw [← Finset.sum_div, ← Nat.cast_sum, tri_sum j]
  split <;> norm_num

theorem c1v8 : res_main_call1_v8 V0 = res_main_call0_v8 V0 := rfl
theorem c1v22 : res_main_call1_v22 V0 = res_main_call0_v22 V0 := rfl
theorem c1v24 : res_main_call1_v24 V0 = res_main_call0_v24 V0 := rfl
theorem c3v8 : res_main_call3_v8 V0 = res_main_call2_v8 V0 := rfl
theorem c3v22 : res_main_call3_v22 V0 = res_main_call2_v22 V0 := rfl
theorem c3v24 : res_main_call3_v24 V0 = res_main_call2_v24 V0 := rfl

theorem lo_bits : Ideal.ofBits .f32 0xBF000000#32 = ((-(1 / 2) : ℝ) : EReal) := by
  simp [Ideal.ofBits, Ideal.ieee, -EReal.coe_mul, -EReal.coe_neg]; norm_num

theorem hi_bits : Ideal.ofBits .f32 0x435F8000#32 = ((447 / 2 : ℝ) : EReal) := by
  simp [Ideal.ofBits, Ideal.ieee, -EReal.coe_mul]; norm_num

theorem hi2_bits : Ideal.ofBits .f32 0x42DF0000#32 = ((223 / 2 : ℝ) : EReal) := by
  simp [Ideal.ofBits, Ideal.ieee, -EReal.coe_mul]; norm_num

theorem th_bits : ∃ t : ℝ, t < 1 / 2 ∧ Ideal.ofBits .f32 0x38FA0000#32 = (t : EReal) := by
  refine ⟨125 / 1048576, by norm_num, ?_⟩
  simp [Ideal.ofBits, Ideal.ieee, -EReal.coe_mul]; norm_num

/-- A weight whose sample lies inside the row is the triangle weight over the column's sum. -/
theorem weight_eq (a s q hi : ℝ) (hb : BitVec 32) (hhi : Ideal.ofBits .f32 hb = (hi : EReal)) (h1 : -(1 / 2) ≤ a) (h2 : a ≤ hi) (hs : 1 / 2 < s) :
    Scalar.select (IntOp.andi (BitVec.ofBool (decide (Ideal.ofBits .f32 3204448256#32 ≤ (a : EReal)))) (BitVec.ofBool (decide ((a : EReal) ≤ Ideal.ofBits .f32 hb))))
      (if Ideal.ofBits .f32 955908096#32 < FloatOps.absf (F := Ideal) (φ := .f32) (s : EReal) then
        Ideal.div (q : EReal) (if (s : EReal) ≠ 0 then (s : EReal) else FloatOps.sitofp (F := Ideal) .f32 1#32) else FloatOps.sitofp (F := Ideal) .f32 0#32)
      (FloatOps.sitofp (F := Ideal) .f32 0#32) = ((q / s : ℝ) : EReal) := by
  obtain ⟨t, ht, e⟩ := th_bits
  have hs0 : s ≠ 0 := by linarith
  rw [lo_bits, hhi, e, absf_coe, abs_of_pos (by linarith), decide_eq_true (EReal.coe_le_coe_iff.2 h1), decide_eq_true (EReal.coe_le_coe_iff.2 h2),
    if_pos (EReal.coe_lt_coe_iff.2 (by linarith)), if_pos (by exact_mod_cast hs0), Ideal.div_coe hs0, ← EReal.coe_mul, mul_one_div]
  rfl

theorem down_eq (y : Fin 224) (k : Fin 112) :
    Scalar.select (IntOp.andi (BitVec.ofBool (decide (Ideal.ofBits .f32 3204448256#32 ≤ ((2 * k.val + 1 / 2 : ℝ) : EReal))))
        (BitVec.ofBool (decide (((2 * k.val + 1 / 2 : ℝ) : EReal) ≤ Ideal.ofBits .f32 1130332160#32))))
      (if Ideal.ofBits .f32 955908096#32 < FloatOps.absf (F := Ideal) (φ := .f32) ((1 : ℝ) : EReal) then
        Ideal.div ((if y.val / 2 = k.val then 1 / 2 else 0 : ℝ) : EReal) (if ((1 : ℝ) : EReal) ≠ 0 then ((1 : ℝ) : EReal) else FloatOps.sitofp (F := Ideal) .f32 1#32) else FloatOps.sitofp (F := Ideal) .f32 0#32)
      (FloatOps.sitofp (F := Ideal) .f32 0#32) = ((if y.val / 2 = k.val then 1 / 2 else 0 : ℝ) : EReal) := by
  have hk : (k.val : ℝ) ≤ 111 := by exact_mod_cast (by omega : k.val ≤ 111)
  have hk0 : (0 : ℝ) ≤ k.val := Nat.cast_nonneg _
  rw [weight_eq _ _ _ _ _ hi_bits (by linarith) (by linarith) (by norm_num), div_one]

theorem up_eq (k : Fin 112) (a : Fin 224) :
    Scalar.select (IntOp.andi (BitVec.ofBool (decide (Ideal.ofBits .f32 3204448256#32 ≤ ((a.val / 2 - 1 / 4 : ℝ) : EReal))))
        (BitVec.ofBool (decide (((a.val / 2 - 1 / 4 : ℝ) : EReal) ≤ Ideal.ofBits .f32 1121910784#32))))
      (if Ideal.ofBits .f32 955908096#32 < FloatOps.absf (F := Ideal) (φ := .f32) ((if a.val = 0 ∨ a.val = 223 then 3 / 4 else 1 : ℝ) : EReal) then
        Ideal.div ((Spec.tri4 k.val a.val / 4 : ℝ) : EReal) (if ((if a.val = 0 ∨ a.val = 223 then 3 / 4 else 1 : ℝ) : EReal) ≠ 0 then ((if a.val = 0 ∨ a.val = 223 then 3 / 4 else 1 : ℝ) : EReal) else FloatOps.sitofp (F := Ideal) .f32 1#32) else FloatOps.sitofp (F := Ideal) .f32 0#32)
      (FloatOps.sitofp (F := Ideal) .f32 0#32) = ((Spec.up4 k.val a.val / 4 : ℝ) : EReal) := by
  have hk : (a.val : ℝ) ≤ 223 := by exact_mod_cast (by omega : a.val ≤ 223)
  have hk0 : (0 : ℝ) ≤ a.val := Nat.cast_nonneg _
  rw [weight_eq _ _ _ _ _ hi2_bits (by linarith) (by linarith) (by split <;> norm_num), Spec.up4_eq]

/-- The image resampled to half its size and back. -/
theorem v3_at (c : Fin 96) (i j : Fin 224) : res_main_v3 V0 (ix4 0 c i j)
    = (∑ z, (∑ y, Spec.half i y * X V0 c y z) * Spec.half j z : EReal) := by
  pointwise [res_main_v3]
  simp only [c1v8, c1v22, c1v24, c3v8, c3v22, c3v24, c0v8_at, c0v22_at, c0v24_at, c2v8_at, c2v22_at, c2v24_at]
  simp only [down_eq, up_eq]
  exact Spec.resample (X V0 c) i j

end Cert.ReferenceIdeal.Read
-- ==== Proof.RefConn.lean ====
/-
  What the reference's connection counts and difference map are, at coordinates.
-/
module

public import proofs.«01_k».proof.Proof.Gen.ReferenceIdeal.Run
public import proofs.«01_k».proof.Proof.RefSim

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

/-- The reference's difference map, from its resampled image. -/
def dmap (i j : Fin 224) : EReal :=
  ∑ ch : Fin 96, max (X V0 ch i j - (res_main_v3 V0 : FVec Ideal S1x96x224x224 .f32) (ix4 0 ch i j)) (-(X V0 ch i j - (res_main_v3 V0 : FVec Ideal S1x96x224x224 .f32) (ix4 0 ch i j)))

theorem v7_at (i j : Fin 224) : res_main_v7 V0 (ix4 0 0 i j) = (dmap V0 i j : EReal) := by
  pointwise [res_main_v7]
  rfl

/-- The fold over the pixels in row-major order is the fold over the pairs of coordinates. -/
theorem fold_pixels (op : EReal → EReal → EReal) [Std.Commutative op] [Std.Associative op] (b : EReal) (D : Fin 224 → Fin 224 → EReal) :
    Finset.univ.fold op b (fun x : Fin 50176 => D ⟨x.val / 224, by omega⟩ ⟨x.val % 224, by omega⟩)
      = Finset.univ.fold op b (fun p : Fin 224 × Fin 224 => D p.1 p.2) := by
  classical
  let g : Fin 50176 → Fin 224 × Fin 224 := fun x => (⟨x.val / 224, by omega⟩, ⟨x.val % 224, by omega⟩)
  have hinj : Function.Injective g := fun x y h => by
    have h1 : x.val / 224 = y.val / 224 := congrArg (fun q : Fin 224 × Fin 224 => q.1.val) h
    have h2 : x.val % 224 = y.val % 224 := congrArg (fun q : Fin 224 × Fin 224 => q.2.val) h
    exact Fin.ext (by omega)
  have himg : (Finset.univ : Finset (Fin 224 × Fin 224)) = Finset.univ.image g := by
    refine (Finset.image_univ_of_surjective ?_).symm
    rintro ⟨a, b⟩
    exact ⟨⟨a.val * 224 + b.val, by omega⟩, Prod.ext (Fin.ext (by show (a.val * 224 + b.val) / 224 = a.val; omega)) (Fin.ext (by show (a.val * 224 + b.val) % 224 = b.val; omega))⟩
  rw [himg, Finset.fold_image (fun x _ y _ h => hinj h)]
  rfl

theorem v10_at : res_main_v10 V0 (ix4 0 0 0 0) = (Spec.least (dmap V0) : EReal) := by
  pointwise [res_main_v10, v7_at]
  exact fold_pixels min _ _

theorem v21_at (i j : Fin 224) : res_main_v21 V0 (ix4 0 0 i j)
    = (Ideal.div (dmap V0 i j - Spec.least (dmap V0)) (Spec.greatest (dmap V0) - Spec.least (dmap V0) + Ideal.ofBits .f32 0x322BCC77#32)
      * Ideal.div (dmap V0 i j - Spec.least (dmap V0)) (Spec.greatest (dmap V0) - Spec.least (dmap V0) + Ideal.ofBits .f32 0x322BCC77#32) : EReal) := by
  pointwise [res_main_v21, res_main_v20, v7_at, v10_at]
  rw [fold_pixels max _ _]
  rfl

theorem v32_at (p : Fin 50176) : res_main_v32 V0 (ix2 0 p)
    = (Spec.conn (Spec.least (dmap V0)) (Spec.greatest (dmap V0)) (dmap V0 ⟨p.val / 224, by omega⟩ ⟨p.val % 224, by omega⟩) : EReal) := by
  pointwise [res_main_v32, v21_at]
  rw [Spec.uitofp_bit, show FloatOps.sitofp (F := Ideal) .f32 0#32 = (0 : EReal) from by show (((0#32 : BitVec 32).toInt : ℝ) : EReal) = 0; simp,
    max_comm]
  rfl

end Cert.ReferenceIdeal.Read
-- ==== Proof.SelMath.lean ====
/- The order a stable sort by falling value puts nine numbers in, and the weighted mean taken in that order. -/
module

public import proofs.«01_k».proof.Proof.SpecLemmas
public import Idealize.ShloMosaic.Lib.SortFacts

@[expose] public section

set_option maxRecDepth 16384

noncomputable section

namespace Cert.Spec

open Idealize.ShloMosaic

/-- Whether `t` comes before `j`: by falling value, ties in index order. -/
def ahead (s : Fin 9 → EReal) (t j : Fin 9) : Bool := decide (s j < s t ∨ (s t = s j ∧ t < j))

theorem ahead_iff (s : Fin 9 → EReal) (t j : Fin 9) : ahead s t j = true ↔ (s j < s t ∨ (s t = s j ∧ t < j)) := by
  simp [ahead]

theorem not_ahead_iff (s : Fin 9 → EReal) (t j : Fin 9) : ahead s t j = false ↔ ¬ (s j < s t ∨ (s t = s j ∧ t < j)) := by
  simp only [ahead, decide_eq_false_iff_not]

theorem before_eq (s : Fin 9 → EReal) (t j : Fin 9) : before s t j = if ahead s t j then 1 else 0 := by
  unfold before ahead
  rcases lt_trichotomy t j with h | h | h
  · have e : s j ≤ s t ↔ (s j < s t ∨ s t = s j) := by rw [le_iff_lt_or_eq, eq_comm (a := s t)]
    simp only [h, if_true, and_true, e, decide_eq_true_eq]
  · subst h; simp
  · simp only [not_lt_of_gt h, h, if_true, if_false, and_false, or_false, decide_eq_true_eq]

theorem ahead_asymm (s : Fin 9 → EReal) (a b : Fin 9) (h : ahead s a b = true) : ahead s b a = false := by
  rw [ahead_iff] at h
  rw [not_ahead_iff]
  rintro (h' | ⟨e, h'⟩)
  · rcases h with h | ⟨e, h⟩
    · exact lt_asymm h h'
    · exact absurd e (ne_of_lt h')
  · rcases h with h | ⟨_, h⟩
    · exact absurd e (ne_of_lt h)
    · exact lt_asymm h h'

theorem ahead_total (s : Fin 9 → EReal) (a b : Fin 9) (h : a ≠ b) (hb : ahead s b a = false) : ahead s a b = true := by
  rw [not_ahead_iff] at hb
  rw [ahead_iff]
  rcases lt_trichotomy (s a) (s b) with h1 | h1 | h1
  · exact absurd (Or.inl h1) hb
  · rcases lt_or_gt_of_ne h with h2 | h2
    · exact Or.inr ⟨h1, h2⟩
    · exact absurd (Or.inr ⟨h1.symm, h2⟩) hb
  · exact Or.inl h1

theorem ahead_negtrans (s : Fin 9 → EReal) (a b c : Fin 9) (h1 : ahead s a b = false) (h2 : ahead s b c = false) :
    ahead s a c = false := by
  rw [not_ahead_iff] at *
  simp only [not_or, not_and, not_lt] at *
  refine ⟨le_trans h1.1 h2.1, fun e => ?_⟩
  have eb : s a = s b := le_antisymm h1.1 (e ▸ h2.1)
  exact le_trans (h2.2 (eb.symm.trans e)) (h1.2 eb)

/-- On a list in index order the stable sort by falling value is the sort by `ahead`. -/
theorem stableSort_ahead (s : Fin 9 → EReal) (R : Fin 9 → Fin 9 → Bool) (hR : ∀ a b, R a b = decide (s b < s a))
    (l : List (Fin 9)) (hl : l.Pairwise (· < ·)) : stableSort R l = stableSort (ahead s) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    rw [hR, ahead]
    simp only [not_lt_of_gt hb', and_false, or_false]

theorem sortedFrom_ahead (s : Fin 9 → EReal) (R : Fin 9 → Fin 9 → Bool) (hR : ∀ a b, R a b = decide (s b < s a)) :
    sortedFrom R = sortedFrom (ahead s) := by
  funext k
  unfold sortedFrom
  rw [List.get_of_eq (show sortPositions 9 R = sortPositions 9 (ahead s) from
    stableSort_ahead s R hR _ (List.pairwise_lt_finRange 9))]
  rfl

/-- The element the sort puts at position `q` has exactly `q` elements before it. -/
theorem rank_sortedFrom (s : Fin 9 → EReal) (R : Fin 9 → Fin 9 → Bool) (hR : ∀ a b, R a b = decide (s b < s a)) (q : Fin 9) :
    rank s (sortedFrom R q) = q.val := by
  rw [sortedFrom_ahead s R hR]
  have hinj := sortedFrom_injective (ahead s)
  have key : ∀ i j : Fin 9, before s (sortedFrom (ahead s) i) (sortedFrom (ahead s) j) = if i < j then 1 else 0 := by
    intro i j
    rw [before_eq]
    rcases lt_trichotomy i j with h | h | h
    · have hn := sortedFrom_noInversion (ahead s) (ahead s) (ahead_asymm s) (fun _ _ h => h) (ahead_negtrans s) i j h
      rw [ahead_total s _ _ (fun e => absurd (hinj e) (ne_of_lt h)) hn, if_pos rfl, if_pos h]
    · subst h
      rw [if_neg (by rw [ahead_iff]; simp), if_neg (lt_irrefl i)]
    · have hn := sortedFrom_noInversion (ahead s) (ahead s) (ahead_asymm s) (fun _ _ h => h) (ahead_negtrans s) j i h
      rw [hn, if_neg (by simp), if_neg (not_lt_of_gt h)]
  unfold rank
  rw [← Function.Bijective.sum_comp (e := sortedFrom (ahead s)) (And.intro hinj (sortedFrom_surjective (ahead s)))]
  simp only [key]
  revert q; decide

theorem exp_nonneg (x : EReal) : 0 ≤ Ideal.exp x := by
  induction x using EReal.rec with
  | bot => exact le_refl _
  | coe r => exact EReal.coe_nonneg.2 (Real.exp_pos r).le
  | top => exact le_top

theorem wt_nonneg (s : Fin 9 → EReal) (k : BitVec 32) (j : Fin 9) : 0 ≤ wt s k j := by
  unfold wt
  split
  · rw [mul_one]; exact exp_nonneg _
  · rw [mul_zero]

/-- With at least one connection the weights of real similarities do not sum to zero. -/
theorem sum_wt_ne (s : Fin 9 → EReal) (hs : ∀ d, ∃ r : ℝ, s d = r) (k : BitVec 32) (hk : 1 ≤ k.toInt) :
    ∑ d, wt s k d ≠ 0 := by
  let R : Fin 9 → Fin 9 → Bool := fun a b => decide (s b < s a)
  have h0 := rank_sortedFrom s R (fun _ _ => rfl) 0
  have hpos : 0 < wt s k (sortedFrom R 0) := by
    obtain ⟨r, hr⟩ := hs (sortedFrom R 0)
    unfold wt
    rw [h0, if_pos (by simp only [Fin.val_zero, Nat.cast_zero]; omega), mul_one, hr]
    exact EReal.coe_pos.2 (Real.exp_pos r)
  refine ne_of_gt (lt_of_lt_of_le hpos ?_)
  exact Finset.single_le_sum (f := wt s k) (fun d _ => wt_nonneg s k d) (Finset.mem_univ _)

/-- The mean taken over the sorted positions, each position's weight kept when it is below `k`, is the mean over the
    neighbours. -/
theorem select_eq (s : Fin 9 → EReal) (hs : ∀ d, ∃ r : ℝ, s d = r) (R : Fin 9 → Fin 9 → Bool)
    (hR : ∀ a b, R a b = decide (s b < s a)) (k : BitVec 32) (hk : 1 ≤ k.toInt) (nb : Fin 9 → EReal) (w : Fin 9 → EReal)
    (hw : ∀ q : Fin 9, w q = Ideal.exp (s (sortedFrom R q)) * (if ((q.val : ℕ) : ℤ) < k.toInt then 1 else 0)) :
    ∑ q, nb (sortedFrom R q) * Ideal.div (w q) (∑ q, w q)
      = ∑ d, wt s k d * Ideal.div 1 (∑ d, wt s k d) * nb d := by
  have hwt : ∀ q, w q = wt s k (sortedFrom R q) := fun q => by rw [hw, wt, rank_sortedFrom s R hR]
  have hbij : Function.Bijective (sortedFrom R) := And.intro (sortedFrom_injective R) (sortedFrom_surjective R)
  have hsum : ∑ q, w q = ∑ d, wt s k d := by
    simp only [hwt]
    exact hbij.sum_comp (fun d => wt s k d)
  rw [hsum, ← hbij.sum_comp (fun d => wt s k d * Ideal.div 1 (∑ d, wt s k d) * nb d)]
  refine Finset.sum_congr rfl fun q _ => ?_
  rw [hwt, Ideal.div, Ideal.div, if_neg (sum_wt_ne s hs k hk), if_neg (sum_wt_ne s hs k hk), one_mul,
    mul_comm]

/-- A pixel with more than one connection is mixed from at least one neighbour. -/
theorem one_le_kcount (v : EReal) (hv : 1 < v) : 1 ≤ (kcount v).toInt := by
  have h : ∃ z : ℤ, 1 ≤ z ∧ z ≤ 2147483647 ∧ Ideal.fptosi 32 v = BitVec.ofInt 32 z := by
    induction v using EReal.rec with
    | bot => exact absurd hv (by simp)
    | top => exact ⟨2147483647, by norm_num, le_refl _, rfl⟩
    | coe r =>
      have hr : (1 : ℝ) < r := by exact_mod_cast hv
      refine ⟨max (-2147483648) (min 2147483647 ⌊r⌋), ?_, ?_, ?_⟩
      · exact le_max_of_le_right (le_min (by norm_num) (Int.le_floor.2 (by exact_mod_cast hr.le)))
      · exact max_le (by norm_num) (min_le_left _ _)
      · show BitVec.ofInt 32 (max (-((2 ^ (32 - 1) : ℕ) : ℤ)) (min (((2 ^ (32 - 1) : ℕ) : ℤ) - 1) (if 0 ≤ r then ⌊r⌋ else ⌈r⌉))) = _
        rw [if_pos (show (0 : ℝ) ≤ r by linarith)]
        norm_num
  obtain ⟨z, h1, h2, e⟩ := h
  unfold kcount
  rw [e]
  have hz : (BitVec.ofInt 32 z).toInt = z := by rw [BitVec.toInt_ofInt]; exact Int.bmod_eq_of_le (by norm_num; omega) (by norm_num; omega)
  unfold IntOp.minsi
  split <;> simp [hz, h1]

end Cert.Spec
-- ==== Proof.RefSel.lean ====
/-
  What the reference selects: the sorted similarities, their weights, the neighbours gathered in that order.
-/
module

public import proofs.«01_k».proof.Proof.Gen.ReferenceIdeal.Run
public import proofs.«01_k».proof.Proof.RefConn
public import proofs.«01_k».proof.Proof.SelMath

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

/-- The position along a pixel's nine values from which the sort by falling value takes its entry `s`. -/
def order (x : FVec Ideal S1x50176x9 .f32) (p : Fin 50176) : Fin 9 → Fin 9 :=
  sortedFrom fun k k' => FloatOps.cmpfTotal (F := Ideal) (φ := .f32) .gt (x (ix3 0 p k)) (x (ix3 0 p k')) == 1#1

theorem along_last (p : Fin 50176) (s k : Fin 9) : Shape.Idx.along (s := S1x50176x9) (ix3 0 p s) (2 : Fin 3) k = ix3 0 p k := by
  funext a
  match a with
  | 0 => rfl
  | 1 => rfl
  | 2 => rfl

theorem slice_all {α : Type} (v : S1x50176x9.Idx → α) (h : S1x50176x9.Slices (fun _ => 0) S1x50176x9) (j : S1x50176x9.Idx) :
    extractStridedSlice S1x50176x9 (fun _ => 0) v h j = v j := by
  unfold extractStridedSlice
  congr 1
  funext a
  exact Fin.ext (Nat.zero_add _)

/-- The sort's permutation with the fiber written as the sort reads it. -/
def orderA (x : FVec Ideal S1x50176x9 .f32) (p : Fin 50176) (s : Fin 9) : Fin 9 :=
  sortedFrom (fun k k' : Fin 9 => FloatOps.cmpfTotal (F := Ideal) (φ := .f32) .gt (x (Shape.Idx.along (s := S1x50176x9) (ix3 0 p s) (2 : Fin 3) k))
    (x (Shape.Idx.along (s := S1x50176x9) (ix3 0 p s) (2 : Fin 3) k')) == 1#1) s

theorem orderA_eq (x : FVec Ideal S1x50176x9 .f32) (p : Fin 50176) (s : Fin 9) : orderA x p s = order x p s := by
  unfold orderA order
  simp only [along_last]

/-- The sorted values. -/
theorem topK_fst (x : FVec Ideal S1x50176x9 .f32) (h : S1x50176x9.Slices (fun _ => 0) S1x50176x9) (p : Fin 50176) (s : Fin 9) :
    (Host.topK S1x50176x9 2 (FloatOps.cmpfTotal (F := Ideal) (φ := .f32) .gt) x h).1 (ix3 0 p s) = x (ix3 0 p (order x p s)) := by
  unfold Host.topK
  simp only [slice_all]
  unfold Host.sort2
  rw [dif_pos (by decide)]
  show x (Shape.Idx.along (s := S1x50176x9) (ix3 0 p s) (2 : Fin 3) (orderA x p s)) = _
  rw [along_last, orderA_eq]

/-- Where each sorted value stood, as a word. -/
theorem topK_snd (x : FVec Ideal S1x50176x9 .f32) (h : S1x50176x9.Slices (fun _ => 0) S1x50176x9) (p : Fin 50176) (s : Fin 9) :
    (Host.topK S1x50176x9 2 (FloatOps.cmpfTotal (F := Ideal) (φ := .f32) .gt) x h).2 (ix3 0 p s) = BitVec.ofNat 32 (order x p s).val := by
  unfold Host.topK
  simp only [slice_all]
  unfold Host.sort2
  rw [dif_pos (by decide)]
  show BitVec.ofNat 32 ((Shape.Idx.along (s := S1x50176x9) (ix3 0 p s) (2 : Fin 3) (orderA x p s)) (2 : Fin 3)).val = _
  rw [along_last, orderA_eq]
  rfl

theorem order_rel (x : FVec Ideal S1x50176x9 .f32) (p : Fin 50176) (a b : Fin 9) :
    (FloatOps.cmpfTotal (F := Ideal) (φ := .f32) .gt (x (ix3 0 p a)) (x (ix3 0 p b)) == 1#1)
      = decide ((x (ix3 0 p b) : EReal) < x (ix3 0 p a)) := by
  show (BitVec.ofBool (decide ((x (ix3 0 p b) : EReal) < x (ix3 0 p a))) == 1#1) = _
  cases decide ((x (ix3 0 p b) : EReal) < x (ix3 0 p a)) <;> rfl

/-- Gathering along the neighbours: entry `s` of pixel `p` is the neighbour its index names. -/
theorem gather_at (x : FVec Ideal S1x50176x9x96 .f32) (idx : IVec S50176x9x1 32) (p : Fin 50176) (s : Fin 9) (c : Fin 96) (q : Fin 9)
    (h : idx (ix3 p s 0) = BitVec.ofNat 32 q.val) :
    Host.gather gather_S1x50176x9x96_S50176x9x1_S1x50176x9x96_03_2_1_0_2_2_11196 x idx (ix4 0 p s c) = x (ix4 0 p q c) := by
  unfold Host.gather
  congr 1
  funext a
  refine Fin.ext ?_
  show gather_S1x50176x9x96_S50176x9x1_S1x50176x9x96_03_2_1_0_2_2_11196.start (ix4 0 p s c) idx a
    + gather_S1x50176x9x96_S50176x9x1_S1x50176x9x96_03_2_1_0_2_2_11196.batchCoord (ix4 0 p s c) a
    + gather_S1x50176x9x96_S50176x9x1_S1x50176x9x96_03_2_1_0_2_2_11196.offCoord (ix4 0 p s c) a = _
  match a with
  | 0 =>
    unfold GatherDims.start GatherDims.batchCoord GatherDims.offCoord
    rw [dif_neg (by decide), dif_neg (by decide), dif_pos (by decide)]
    rfl
  | 1 =>
    unfold GatherDims.start GatherDims.batchCoord GatherDims.offCoord
    rw [dif_neg (by decide), dif_pos (by decide), dif_neg (by decide), Nat.zero_add, Nat.add_zero]
    rfl
  | 2 =>
    unfold GatherDims.start GatherDims.batchCoord GatherDims.offCoord
    rw [dif_pos (by decide), dif_neg (by decide), dif_neg (by decide), Nat.add_zero]
    have e : gather_S1x50176x9x96_S50176x9x1_S1x50176x9x96_03_2_1_0_2_2_11196.siIdx (ix4 0 p s c)
        ⟨List.idxOf (2 : Fin 4) gather_S1x50176x9x96_S50176x9x1_S1x50176x9x96_03_2_1_0_2_2_11196.startIndexMap, List.idxOf_lt_length_iff.2 (by decide)⟩ = ix3 p s 0 := by
      funext b
      match b with
      | 0 => rfl
      | 1 => rfl
      | 2 => rfl
    rw [e, h]
    show min (BitVec.ofNat 32 q.val).toInt.toNat 8 = q.val
    clear h
    revert q; decide
  | 3 =>
    unfold GatherDims.start GatherDims.batchCoord GatherDims.offCoord
    rw [dif_neg (by decide), dif_neg (by decide), dif_pos (by decide), Nat.zero_add]
    rfl

variable (V0 : Valuation τ sig (Elt Ideal))

/-- The connection count of a pixel. -/
def cv (i j : Fin 224) : EReal := Spec.conn (Spec.least (dmap V0)) (Spec.greatest (dmap V0)) (dmap V0 i j)

/-- The similarities of the reference's pixels. -/
def sims : FVec Ideal S1x50176x9 .f32 := res_main_v65 V0

/-- The weight of the neighbour at sorted position `s`, from any sorted similarities and any counts. -/
theorem weights_at (t : FVec Ideal S1x50176x9 .f32) (n : FVec Ideal S1x50176 .f32) (p : Fin 50176) (s : Fin 9) :
    mulf (Host.exp t) (uitofp .f32 (cmpi .slt (broadcastInDim S1x50176x9 ![0, 1, 2] bcast_S1x1x9_S1x50176x9_0_1_2 (broadcastInDim S1x1x9 ![2] bcast_S9_S1x1x9_2 (iotaInDim S9 32 0))) (broadcastInDim S1x50176x9 ![0, 1, 2] bcast_S1x50176x1_S1x50176x9_0_1_2 (broadcastInDim S1x50176x1 ![0, 1] bcast_S1x50176_S1x50176x1_0_1 (minsi (fptosi 32 n) (broadcastInDim S1x50176 ![] bcast_S_S1x50176 (constantI S_ 32 9#32))))))) (ix3 0 p s)
      = (Ideal.exp (t (ix3 0 p s)) * (if (s.val : ℤ) < (Spec.kcount (n (ix2 0 p))).toInt then 1 else 0) : EReal) := by
  pointwise
  rw [show IntOp.cmpi .slt (BitVec.ofNat 32 s.val) (IntOp.minsi (FloatOps.fptosi 32 (n (ix2 0 p))) 9#32)
      = BitVec.ofBool (decide ((s.val : ℤ) < (Spec.kcount (n (ix2 0 p))).toInt)) from ?_, Spec.uitofp_bit]
  show BitVec.ofBool (BitVec.slt (BitVec.ofNat 32 s.val) (Spec.kcount (n (ix2 0 p)))) = _
  rw [BitVec.slt, show (BitVec.ofNat 32 s.val).toInt = (s.val : ℤ) by revert s; decide]

/-- The word that names the neighbour at sorted position `s`, from any words of the sort. -/
theorem words_at (t : IVec S1x50176x9 32) (p : Fin 50176) (s : Fin 9) (q : Fin 9) (h : t (ix3 0 p s) = BitVec.ofNat 32 q.val) :
    (shapeCast S50176x9x1 (select (cmpi .slt (broadcastInDim S1x50176x9x1 ![0, 1, 2] bcast_S1x50176x9_S1x50176x9x1_0_1_2 t) (broadcastInDim S1x50176x9x1 ![] bcast_S_S1x50176x9x1 (constantI S_ 32 0#32))) (addi (broadcastInDim S1x50176x9x1 ![0, 1, 2] bcast_S1x50176x9_S1x50176x9x1_0_1_2 t) (broadcastInDim S1x50176x9x1 ![] bcast_S_S1x50176x9x1 (constantI S_ 32 9#32))) (broadcastInDim S1x50176x9x1 ![0, 1, 2] bcast_S1x50176x9_S1x50176x9x1_0_1_2 t)) shapeCasts_S1x50176x9x1_S50176x9x1 : IVec S50176x9x1 32) (ix3 p s 0)
      = BitVec.ofNat 32 q.val := by
  pointwise [h]
  clear h
  revert q; decide

theorem v77_at (p : Fin 50176) (s : Fin 9) : (res_main_v77 V0 : FVec Ideal S1x50176x9 .f32) (ix3 0 p s)
    = (Ideal.exp (sims V0 (ix3 0 p (order (sims V0) p s))) * (if (s.val : ℤ) < (Spec.kcount (cv V0 ⟨p.val / 224, by omega⟩ ⟨p.val % 224, by omega⟩)).toInt then 1 else 0) : EReal) := by
  have h := weights_at (Host.topK S1x50176x9 2 (FloatOps.cmpfTotal (F := Ideal) (φ := .f32) .gt) (sims V0) sliceFits_S1x50176x9_S1x50176x9).1 (res_main_v32 V0) p s
  rw [topK_fst, v32_at] at h
  exact h

theorem words (p : Fin 50176) (s : Fin 9) : (res_main_call11_v5 V0 : IVec S50176x9x1 32) (ix3 p s 0) = BitVec.ofNat 32 (order (sims V0) p s).val :=
  words_at (Host.topK S1x50176x9 2 (FloatOps.cmpfTotal (F := Ideal) (φ := .f32) .gt) (sims V0) sliceFits_S1x50176x9_S1x50176x9).2 p s _ (topK_snd _ _ p s)

end Cert.ReferenceIdeal.Read
-- ==== Proof.RefNorm.lean ====
/-
  What the reference's group normalisation is, at coordinates.
-/
module

public import proofs.«01_k».proof.Proof.Gen.ReferenceIdeal.Run
public import proofs.«01_k».proof.Proof.RefSim
public import proofs.«01_k».proof.Proof.NormMath

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

/-- The image by channel group and channel within the group. -/
theorem v95_at (g : Fin 32) (k : Fin 3) (i j : Fin 224) : res_main_v95 V0 (ix5 0 g k i j) = (X V0 ⟨g.val * 3 + k.val, by omega⟩ i j : EReal) := by
  pointwise [res_main_v95]
  rfl

/-- The sum of a group. -/
def gsum (F : Fin 96 → Fin 224 → Fin 224 → EReal) (g : Fin 32) : EReal := ∑ k : Fin 3, ∑ i, ∑ j, F ⟨g.val * 3 + k.val, by omega⟩ i j

theorem gn8_at : res_main_call13_v8 V0 ix0 = ((150528 : ℝ) : EReal) := by
  pointwise [res_main_call13_v8]
  rw [show FloatOps.sitofp (F := Ideal) .f32 0#32 = (0 : EReal) from by show (((0#32 : BitVec 32).toInt : ℝ) : EReal) = 0; simp,
    Spec.size_bits, sub_zero]

/-- The image centred by its group's mean. -/
theorem gn5_at (g : Fin 32) (k : Fin 3) (i j : Fin 224) : res_main_call13_v5 V0 (ix5 0 g k i j)
    = (X V0 ⟨g.val * 3 + k.val, by omega⟩ i j - Ideal.div (gsum (X V0) g) ((150528 : ℝ) : EReal) : EReal) := by
  pointwise [res_main_call13_v5, v95_at]
  rw [Spec.size_bits]
  rfl

end Cert.ReferenceIdeal.Read
-- ==== Proof.RefMix.lean ====
/-
  What the reference mixes from a pixel's neighbours, and its sum with the normalised image, at coordinates.
-/
module

public import proofs.«01_k».proof.Proof.Gen.ReferenceIdeal.Run
public import proofs.«01_k».proof.Proof.RefSel
public import proofs.«01_k».proof.Proof.RefNorm
public import proofs.«01_k».proof.Proof.NormCommon

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

/-- The fold of true bits by "and" is true. -/
theorem fold_true {α : Type} [DecidableEq α] (f : α → BitVec 1) (S : Finset α) (h : ∀ a, f a = 1#1) : Finset.fold IntOp.andi 1#1 f S = 1#1 := by
  induction S using Finset.induction_on with
  | empty => rfl
  | insert a S ha ih => rw [Finset.fold_insert ha, ih, h]; rfl

/-- The neighbour taken at sorted position `s`, when the words name neighbours. -/
theorem take_at (t : FVec Ideal S1x96x9x50176 .f32) (idx : IVec S50176x9x1 32) (q : Fin 50176 → Fin 9 → Fin 9)
    (h : ∀ p s, idx (ix3 p s 0) = BitVec.ofNat 32 (q p s).val) (p : Fin 50176) (s : Fin 9) (c : Fin 96) :
    (select (broadcastInDim S1x50176x9x96 ![1, 2] bcast_S50176x9_S1x50176x9x96_1_2 (Host.reduce IntOp.andi (andi (cmpi .sge idx (broadcastInDim S50176x9x1 ![] bcast_S_S50176x9x1 (constantI S_ 32 0#32))) (cmpi .sle idx (broadcastInDim S50176x9x1 ![0, 1, 2] bcast_S1x1x1_S50176x9x1_0_1_2 (broadcastInDim S1x1x1 ![2] bcast_S1_S1x1x1_2 (constantI S1 32 8#32))))) (constantI S_ 1 1#1) reducesTo_S50176x9x1_S50176x9_d2 h_S_)) (Host.gather gather_S1x50176x9x96_S50176x9x1_S1x50176x9x96_03_2_1_0_2_2_11196 (transpose S1x50176x9x96 [0, 3, 2, 1] t transposes_S1x96x9x50176_S1x50176x9x96_0_3_2_1) idx) (broadcastInDim S1x50176x9x96 ![] bcast_S_S1x50176x9x96 (constant S_ .f32 0x7FC00000#32))) (ix4 0 p s c)
      = (t (ix4 0 c (q p s) p) : EReal) := by
  pointwise
  rw [fold_true]
  · rw [gather_at _ idx p s c (q p s) (h p s)]
    pointwise
  · intro a
    rw [Subsingleton.elim a 0, h p s]
    generalize q p s = r
    revert r; decide

/-- The weighted neighbours, or the pixel itself where its count is one, from any arrays. -/
theorem pick_at (n : FVec Ideal S1x50176 .f32) (sel : FVec Ideal S1x50176x9x96 .f32) (v : FVec Ideal S1x50176x9 .f32) (o : FVec Ideal S1x96x50176 .f32)
    (c : Fin 96) (i j : Fin 224) :
    (shapeCast S1x96x224x224 (select (broadcastInDim S1x96x50176 ![0, 1, 2] bcast_S1x1x50176_S1x96x50176_0_1_2 (broadcastInDim S1x1x50176 ![0, 2] bcast_S1x50176_S1x1x50176_0_2 (cmpf .ogt n (broadcastInDim S1x50176 ![] bcast_S_S1x50176 (constant S_ .f32 0x3F800000#32))))) (transpose S1x96x50176 [0, 2, 1] (Host.reduceAdd (mulf sel (broadcastInDim S1x50176x9x96 ![0, 1, 2, 3] bcast_S1x50176x9x1_S1x50176x9x96_0_1_2_3 (broadcastInDim S1x50176x9x1 ![0, 1, 2] bcast_S1x50176x9_S1x50176x9x1_0_1_2 (Host.divf v (broadcastInDim S1x50176x9 ![0, 1, 2] bcast_S1x50176x1_S1x50176x9_0_1_2 (broadcastInDim S1x50176x1 ![0, 1] bcast_S1x50176_S1x50176x1_0_1 (Host.reduceAdd v (constant S_ .f32 0x00000000#32) reducesTo_S1x50176x9_S1x50176_d2 h_S_))))))) (constant S_ .f32 0x00000000#32) reducesTo_S1x50176x9x96_S1x50176x96_d2 h_S_) transposes_S1x50176x96_S1x96x50176_0_2_1) o) shapeCasts_S1x96x50176_S1x96x224x224) (ix4 0 c i j)
      = (if (1 : EReal) < n (ix2 0 ⟨i.val * 224 + j.val, by omega⟩) then
          ∑ s : Fin 9, sel (ix4 0 ⟨i.val * 224 + j.val, by omega⟩ s c) * Ideal.div (v (ix3 0 ⟨i.val * 224 + j.val, by omega⟩ s)) (∑ s : Fin 9, v (ix3 0 ⟨i.val * 224 + j.val, by omega⟩ s))
        else o (ix3 0 c ⟨i.val * 224 + j.val, by omega⟩) : EReal) := by
  pointwise

/-- The normalised entry times its weight plus its offset, from any arrays. -/
theorem group_at (x y : FVec Ideal S1x32x3x224x224 .f32) (z : FVec Ideal S_ .f32) (w b : FVec Ideal S96 .f32) (hz : z ix0 = ((150528 : ℝ) : EReal))
    (c : Fin 96) (i j : Fin 224) :
    (addf (mulf (shapeCast S1x96x224x224 (Host.divf (subf x (broadcastInDim S1x32x3x224x224 ![0, 1, 2, 3, 4] bcast_S1x32x1x1x1_S1x32x3x224x224_0_1_2_3_4 (Host.divf (broadcastInDim S1x32x1x1x1 ![0, 1] bcast_S1x32_S1x32x1x1x1_0_1 (Host.reduceAdd x (constant S_ .f32 0x00000000#32) reducesTo_S1x32x3x224x224_S1x32_d2_3_4 h_S_)) (broadcastInDim S1x32x1x1x1 ![] bcast_S_S1x32x1x1x1 (constant S_ .f32 0x48130000#32))))) (broadcastInDim S1x32x3x224x224 ![0, 1, 2, 3, 4] bcast_S1x32x1x1x1_S1x32x3x224x224_0_1_2_3_4 (Host.sqrt (addf (select (broadcastInDim S1x32x1x1x1 ![] bcast_S_S1x32x1x1x1 (cmpf .ogt z (constant S_ .f32 0x00000000#32))) (Host.divf (broadcastInDim S1x32x1x1x1 ![0, 1] bcast_S1x32_S1x32x1x1x1_0_1 (Host.reduceAdd (mulf y y) (constant S_ .f32 0x00000000#32) reducesTo_S1x32x3x224x224_S1x32_d2_3_4 h_S_)) (broadcastInDim S1x32x1x1x1 ![] bcast_S_S1x32x1x1x1 z)) (broadcastInDim S1x32x1x1x1 ![] bcast_S_S1x32x1x1x1 (id (constant S_ .f32 0x7FC00000#32)))) (broadcastInDim S1x32x1x1x1 ![] bcast_S_S1x32x1x1x1 (constant S_ .f32 0x3727C5AC#32)))))) shapeCasts_S1x32x3x224x224_S1x96x224x224) (broadcastInDim S1x96x224x224 ![0, 1, 2, 3] bcast_S1x96x1x1_S1x96x224x224_0_1_2_3 (broadcastInDim S1x96x1x1 ![1] bcast_S96_S1x96x1x1_1 w))) (broadcastInDim S1x96x224x224 ![0, 1, 2, 3] bcast_S1x96x1x1_S1x96x224x224_0_1_2_3 (broadcastInDim S1x96x1x1 ![1] bcast_S96_S1x96x1x1_1 b))) (ix4 0 c i j)
      = (Ideal.div (x (ix5 0 ⟨c.val / 3, by omega⟩ ⟨c.val % 3, by omega⟩ i j) - Ideal.div (∑ k : Fin 3, ∑ a : Fin 224, ∑ b : Fin 224, x (ix5 0 ⟨c.val / 3, by omega⟩ k a b)) ((150528 : ℝ) : EReal))
          (Ideal.sqrt (Ideal.div (∑ k : Fin 3, ∑ a : Fin 224, ∑ b : Fin 224, y (ix5 0 ⟨c.val / 3, by omega⟩ k a b) * y (ix5 0 ⟨c.val / 3, by omega⟩ k a b)) ((150528 : ℝ) : EReal)
            + Ideal.ofBits .f32 0x3727C5AC#32)) * w (ix1 c) + b (ix1 c) : EReal) := by
  pointwise [hz]
  rw [Spec.size_bits, if_pos (by exact_mod_cast (by norm_num : (0 : ℝ) < 150528))]

/-- The neighbours taken in sorted order with their normalised weights sum to the weighted mean. -/
theorem mixed_of (P : Fin 96 → ℕ → ℕ → EReal) (v : EReal) (i j : ℕ) (c : Fin 96) (s : Fin 9 → EReal) (hs : s = Spec.sim P i j)
    (R : Fin 9 → Fin 9 → Bool) (hR : ∀ a b, R a b = decide (s b < s a)) :
    (if 1 < v then
        ∑ x : Fin 9, P c (i + (sortedFrom R x).val / 3) (j + (sortedFrom R x).val % 3)
          * Ideal.div (Ideal.exp (s (sortedFrom R x)) * (if ((x.val : ℕ) : ℤ) < (Spec.kcount v).toInt then 1 else 0))
            (∑ x : Fin 9, Ideal.exp (s (sortedFrom R x)) * (if ((x.val : ℕ) : ℤ) < (Spec.kcount v).toInt then 1 else 0))
      else P c (i + 1) (j + 1)) = Spec.mixed P v i j c := by
  unfold Spec.mixed
  by_cases h : 1 < v
  · rw [if_pos h, if_pos h]
    subst hs
    exact Spec.select_eq (Spec.sim P i j) (fun d => sim_real P i j d) R hR (Spec.kcount v) (Spec.one_le_kcount v h)
      (fun d => P c (i + d.val / 3) (j + d.val % 3))
      (fun x => Ideal.exp (Spec.sim P i j (sortedFrom R x)) * (if ((x.val : ℕ) : ℤ) < (Spec.kcount v).toInt then 1 else 0)) (fun _ => rfl)
  · rw [if_neg h, if_neg h]

/-- The reference's sum of the mixed neighbours and the normalised image. -/
theorem v115_at (c : Fin 96) (i j : Fin 224) : res_main_v115 V0 (ix4 0 c i j)
    = (Spec.mixed (Spec.pd (X V0)) (cv V0 i j) i.val j.val c
      + Spec.centred (X V0) ((V0 (Proc.devRef .tc main_arg1) : FVec Ideal S96 .f32) (ix1 c)) ((V0 (Proc.devRef .tc main_arg2) : FVec Ideal S96 .f32) (ix1 c)) c i j : EReal) := by
  unfold res_main_v115
  refine congrArg₂ (fun a b : EReal => a + b) ((pick_at _ _ _ _ c i j).trans ?_) ((group_at _ _ _ _ _ (gn8_at V0) c i j).trans ?_)
  · simp only [take_at (res_main_v53 V0) (res_main_call11_v5 V0) (order (sims V0)) (words V0), v53_at, v77_at, v54_at, v32_at]
    have e1 : (i.val * 224 + j.val) / 224 = i.val := by omega
    have e2 : (i.val * 224 + j.val) % 224 = j.val := by omega
    simp only [e1, e2]
    refine mixed_of (Spec.pd (X V0)) (cv V0 i j) i.val j.val c (fun d => sims V0 (ix3 0 ⟨i.val * 224 + j.val, by omega⟩ d)) ?_ _
      (order_rel (sims V0) ⟨i.val * 224 + j.val, by omega⟩)
    funext d
    have h := v65_sim V0 ⟨i.val * 224 + j.val, by omega⟩ d
    simp only [e1, e2] at h
    exact h
  · simp only [v95_at, gn5_at]
    have e : (⟨c.val / 3 * 3 + c.val % 3, by omega⟩ : Fin 96) = c := Fin.ext (by show c.val / 3 * 3 + c.val % 3 = c.val; omega)
    rw [e]
    rfl

end Cert.ReferenceIdeal.Read
-- ==== Proof.RefFfn.lean ====
/-
  What the reference's network makes of a pixel's channel vector.
-/
module

public import proofs.«01_k».proof.Proof.Gen.ReferenceIdeal.Run
public import proofs.«01_k».proof.Proof.RefNorm

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

/-- The network's two layers around any image, at coordinates. -/
theorem ffn_at (e : FVec Ideal S1x96x224x224 .f32) (w1 : FVec Ideal S192x96 .f32) (b1 : FVec Ideal S192 .f32) (w2 : FVec Ideal S96x192 .f32) (b2 : FVec Ideal S96 .f32)
    (o : Fin 96) (i j : Fin 224) :
    addf e (addf (transpose S1x96x224x224 [0, 3, 1, 2] (Host.dotGeneral dot_S1x192x224x224_S96x192_S1x224x224x96_1_1_023_0_n_n none (maximumf (addf (transpose S1x192x224x224 [0, 3, 1, 2] (Host.dotGeneral dot_S1x96x224x224_S192x96_S1x224x224x192_1_1_023_0_n_n none e w1) transposes_S1x224x224x192_S1x192x224x224_0_3_1_2) (broadcastInDim S1x192x224x224 ![0, 1, 2, 3] bcast_S1x192x1x1_S1x192x224x224_0_1_2_3 (broadcastInDim S1x192x1x1 ![1] bcast_S192_S1x192x1x1_1 b1))) (broadcastInDim S1x192x224x224 ![] bcast_S_S1x192x224x224 (constant S_ .f32 0x00000000#32))) w2) transposes_S1x224x224x96_S1x96x224x224_0_3_1_2) (broadcastInDim S1x96x224x224 ![0, 1, 2, 3] bcast_S1x96x1x1_S1x96x224x224_0_1_2_3 (broadcastInDim S1x96x1x1 ![1] bcast_S96_S1x96x1x1_1 b2))) (ix4 0 o i j)
      = Spec.ffn (fun k c => w1 (ix2 k c)) (fun k => b1 (ix1 k)) (fun o k => w2 (ix2 o k)) (fun o => b2 (ix1 o)) (fun c => e (ix4 0 c i j)) o := by
  pointwise [Spec.ffn]
  congr 2
  refine Finset.sum_congr rfl fun x _ => ?_
  rw [mul_comm]
  congr 3
  exact Finset.sum_congr rfl fun y _ => mul_comm _ _

end Cert.ReferenceIdeal.Read
-- ==== Proof.Same.lean ====
/- The reference's result as the common function. -/
module

public import proofs.«01_k».proof.Proof.Gen.ReferenceIdeal.Run
public import proofs.«01_k».proof.Proof.Common
public import proofs.«01_k».proof.Proof.RefRes
public import proofs.«01_k».proof.Proof.RefMix
public import proofs.«01_k».proof.Proof.RefFfn

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Read

variable (V0 : Valuation τ sig (Elt Ideal))

theorem dmap_eq : dmap V0 = Spec.dm (X V0) := by
  funext i j
  unfold dmap Spec.dm Spec.gap
  simp only [v3_at]

/-- The network around the reference's image is the common function of the arguments. -/
theorem whole_eq (o : Fin 96) (i j : Fin 224) :
    Spec.ffn (fun k c => (V0 (Proc.devRef .tc main_arg3) : FVec Ideal S192x96 .f32) (ix2 k c)) (fun k => (V0 (Proc.devRef .tc main_arg4) : FVec Ideal S192 .f32) (ix1 k))
        (fun o k => (V0 (Proc.devRef .tc main_arg5) : FVec Ideal S96x192 .f32) (ix2 o k)) (fun o => (V0 (Proc.devRef .tc main_arg6) : FVec Ideal S96 .f32) (ix1 o))
        (fun c => (res_main_v115 V0 : FVec Ideal S1x96x224x224 .f32) (ix4 0 c i j)) o
      = Spec.whole (X V0) (fun k => (V0 (Proc.devRef .tc main_arg1) : FVec Ideal S96 .f32) (ix1 k)) (fun k => (V0 (Proc.devRef .tc main_arg2) : FVec Ideal S96 .f32) (ix1 k))
        (fun k c => (V0 (Proc.devRef .tc main_arg3) : FVec Ideal S192x96 .f32) (ix2 k c)) (fun k => (V0 (Proc.devRef .tc main_arg4) : FVec Ideal S192 .f32) (ix1 k))
        (fun o k => (V0 (Proc.devRef .tc main_arg5) : FVec Ideal S96x192 .f32) (ix2 o k)) (fun o => (V0 (Proc.devRef .tc main_arg6) : FVec Ideal S96 .f32) (ix1 o)) o i j := by
  unfold Spec.whole
  refine congrArg (fun f => Spec.ffn _ _ _ _ f o) (funext fun ch => ?_)
  refine (v115_at V0 ch i j).trans ?_
  unfold cv
  rw [dmap_eq]

end Cert.ReferenceIdeal.Read
-- ==== Proof.HostVal.lean ====
/-
  The arrays the two pipelined calls read, at coordinates: what the host computed of the arguments.
-/
module

public import proofs.«01_k».proof.Proof.IdealRun
public import proofs.«01_k».proof.Proof.SpecLemmas
public import Idealize.ShloMosaic.Lib.Pipeline.ValueKit

@[expose] public section

set_option maxRecDepth 16384

noncomputable section

open Idealize.ShloMosaic Idealize.ShloMosaic.TcCoe Idealize.ShloMosaic.Pipeline
open Cert.KernelIdeal Cert.KernelIdeal.Gen Cert.KernelIdeal.Run

namespace Cert.KernelIdeal.Host

variable (m : (ℓ : Loc nD τ sig) → Buf (Elt Ideal) ℓ) (ρ : Dev nD → PrngReg) (c : Dev nD)

/-- The image, by channel. -/
def X (ch : Fin 96) (i j : Fin 224) : EReal := (m ((c : Thread nD τ).loc main_arg0) : FVec Ideal S1x96x224x224 .f32) (ix4 0 ch i j)

/-- The image with a column of zeros on either side. -/
def padded : FVec Ideal S96x224x226 .f32 :=
  pad S96x224x226 ![0, 0, 1] ![0, 0, 1] ![0, 0, 0] (fun i : S96x224x224.Idx => X m c (i 0) (i 1) (i 2)) (sitofp .f32 (constantI S_ 32 0#32))
    pads_S96x224x224_S96x224x226_000_000_110 h_S_

theorem padded_at (ch : Fin 96) (i : Fin 224) (q : Fin 226) : padded m c (ix3 ch i q) = Spec.pd (X m c) ch (i + 1) q := by
  pointwise [padded, Spec.pd]
  have h0 : FloatOps.sitofp (F := Ideal) FTy.f32 0#32 = 0 := by
    show (((0#32 : BitVec 32).toInt : ℝ) : EReal) = 0
    simp
  by_cases h : 1 ≤ (q : ℕ) ∧ (q : ℕ) ≤ 224
  · rw [dif_pos ⟨h.1, by omega⟩, dif_pos ⟨by omega, h.1, h.2⟩]
    rfl
  · rw [dif_neg (by omega), dif_neg (by omega), h0]

/-- The image's channels as the host lays them out. -/
theorem v0_at (ch : Fin 96) (i j : Fin 224) : (W1 m ρ c (Proc.devRef .tc main_v0) : FVec Ideal S96x224x224 .f32) (ix3 ch i j) = X m c ch i j := by
  unfold W1
  entry_read
  pointwise [X]

theorem v1_eq : W2 m ρ c (Proc.devRef .tc main_v1) = padded m c := by
  unfold W2
  entry_read
  pointwise
  rfl

/-- The rows above the strips. -/
theorem v5_at (t : Fin 14) (ch : Fin 96) (q : Fin 226) : (W3 m ρ c (Proc.devRef .tc main_v5) : FVec Ideal S14x96x226 .f32) (ix3 t ch q) = Spec.pd (X m c) ch (t * 16) q := by
  have h : W3 m ρ c (Proc.devRef .tc main_v5) = concatenate S14x96x226 0 [⟨S1x96x226, broadcastInDim S1x96x226 ![] bcast_S_S1x96x226 (constant S_ .f32 0x00000000#32)⟩,
     ⟨S13x96x226, transpose S13x96x226 [1, 0, 2] (Host.slice S96x13x226 ![0, 15, 0] ![1, 16, 1] (padded m c) slicesBy_S96x224x226_S96x13x226_0s1_15s16_0s1) transposes_S96x13x226_S13x96x226_1_0_2⟩] concatenates_S1x96x226_S13x96x226_S14x96x226_d0 := by
    rw [← v1_eq m ρ c]
    unfold W3
    entry_read
    rfl
  rw [h]
  pointwise [padded_at]
  by_cases h : (t : ℕ) < 1
  · rw [dif_pos h, Spec.pd, dif_neg (by omega)]
  · rw [dif_neg h]
    congr 1
    omega

/-- The rows below the strips. -/
theorem v8_at (t : Fin 14) (ch : Fin 96) (q : Fin 226) : (W3 m ρ c (Proc.devRef .tc main_v8) : FVec Ideal S14x96x226 .f32) (ix3 t ch q) = Spec.pd (X m c) ch (t * 16 + 17) q := by
  have h : W3 m ρ c (Proc.devRef .tc main_v8) = concatenate S14x96x226 0 [
     ⟨S13x96x226, transpose S13x96x226 [1, 0, 2] (Host.slice S96x13x226 ![0, 16, 0] ![1, 16, 1] (padded m c) slicesBy_S96x224x226_S96x13x226_0s1_16s16_0s1) transposes_S96x13x226_S13x96x226_1_0_2⟩,
     ⟨S1x96x226, broadcastInDim S1x96x226 ![] bcast_S_S1x96x226 (constant S_ .f32 0x00000000#32)⟩] concatenates_S13x96x226_S1x96x226_S14x96x226_d0 := by
    rw [← v1_eq m ρ c]
    unfold W3
    entry_read
    rfl
  rw [h]
  pointwise [padded_at]
  by_cases h : (t : ℕ) < 13
  · rw [dif_pos h]
    congr 1
    omega
  · rw [dif_neg h, Spec.pd, dif_neg (by omega)]

theorem cst_at : W3 m ρ c (Proc.devRef .tc main_cst) = fun i : S224x224.Idx => FloatOps.ofBits (F := Ideal) .f32 (lit0 (S224x224.rowMajor i)) := by
  rw [W3_of m ρ c _ (by decide), W2_of m ρ c _ (by decide)]
  unfold W1
  entry_read
  rfl

theorem cst0_at : W3 m ρ c (Proc.devRef .tc main_cst_0) = fun i : S224x224.Idx => FloatOps.ofBits (F := Ideal) .f32 (lit1 (S224x224.rowMajor i)) := by
  rw [W3_of m ρ c _ (by decide), W2_of m ρ c _ (by decide)]
  unfold W1
  entry_read
  rfl

theorem cst1_at : W3 m ρ c (Proc.devRef .tc main_cst_1) = fun i : S96x96.Idx => FloatOps.ofBits (F := Ideal) .f32 (lit2 (S96x96.rowMajor i)) := by
  rw [W3_of m ρ c _ (by decide), W2_of m ρ c _ (by decide)]
  unfold W1
  entry_read
  rfl

/-- Argument 1 as a column. -/
theorem v10_at (i : Fin 96) : (W5 m ρ c (Proc.devRef .tc main_v10) : FVec Ideal S96x1 .f32) (ix2 i 0) = (m ((c : Thread nD τ).loc main_arg1) : FVec Ideal S96 .f32) (ix1 i) := by
  rw [← W4_args m ρ c main_arg1 (by decide)]
  unfold W5
  entry_read
  pointwise

/-- Argument 2 as a column. -/
theorem v11_at (i : Fin 96) : (W5 m ρ c (Proc.devRef .tc main_v11) : FVec Ideal S96x1 .f32) (ix2 i 0) = (m ((c : Thread nD τ).loc main_arg2) : FVec Ideal S96 .f32) (ix1 i) := by
  rw [← W4_args m ρ c main_arg2 (by decide)]
  unfold W5
  entry_read
  pointwise

/-- Argument 4 as a column. -/
theorem v12_at (i : Fin 192) : (W5 m ρ c (Proc.devRef .tc main_v12) : FVec Ideal S192x1 .f32) (ix2 i 0) = (m ((c : Thread nD τ).loc main_arg4) : FVec Ideal S192 .f32) (ix1 i) := by
  rw [← W4_args m ρ c main_arg4 (by decide)]
  unfold W5
  entry_read
  pointwise

/-- Argument 6 as a column. -/
theorem v13_at (i : Fin 96) : (W5 m ρ c (Proc.devRef .tc main_v13) : FVec Ideal S96x1 .f32) (ix2 i 0) = (m ((c : Thread nD τ).loc main_arg6) : FVec Ideal S96 .f32) (ix1 i) := by
  rw [← W4_args m ρ c main_arg6 (by decide)]
  unfold W5
  entry_read
  pointwise

/-- The result is the second call's array. -/
theorem v15_at (o : Fin 96) (h w : Fin 224) : (W7 m ρ c (Proc.devRef .tc main_v15) : FVec Ideal S1x96x224x224 .f32) (ix4 0 o h w)
    = (W6 m ρ c (Proc.devRef .tc main_v14) : FVec Ideal S96x224x224 .f32) (ix3 o h w) := by
  unfold W7
  entry_read
  pointwise

end Cert.KernelIdeal.Host
-- ==== Proof.K0Read.lean ====
/- What the stored values of the first region's body are at an index. -/
module

public import proofs.«01_k».proof.Proof.Gen.KernelIdeal.Skeleton
public import proofs.«01_k».proof.Proof.SpecLemmas

@[expose] public section

set_option maxRecDepth 16384

noncomputable section

namespace Cert.KernelIdeal.Read0

open Cert.KernelIdeal Cert.KernelIdeal.Gen
open Idealize.ShloMosaic Idealize.ShloMosaic.TcCoe

variable (x0 : FVec Ideal S8x224x224 .f32) (M Mt acc : FVec Ideal S224x224 .f32) (a b : Fin 224)

/-- The eight channels' part of the difference map. -/
theorem part_at : k0_pay1 (F := Ideal) (k0_pay3 x0) M Mt (k0_pay6 x0 M Mt) (k0_pay7 x0) (constant S224x224 .f32 0x00000000#32) (ix2 a b)
      = ∑ c : Fin 8, Spec.gap (fun i j => M (ix2 i j)) (fun i j => Mt (ix2 i j)) (fun i j => x0 (ix3 c i j)) a b := by
  pointwise [k0_pay1, k0_pay3, k0_pay6, k0_pay7]
  rw [Fin.sum_univ_eight]
  rfl

/-- The same part added to what the buffer held. -/
theorem step_at : k0_pay2 (F := Ideal) (k0_pay3 x0) M Mt (k0_pay6 x0 M Mt) (k0_pay7 x0) (constant S224x224 .f32 0x00000000#32) acc (ix2 a b)
      = acc (ix2 a b) + ∑ c : Fin 8, Spec.gap (fun i j => M (ix2 i j)) (fun i j => Mt (ix2 i j)) (fun i j => x0 (ix3 c i j)) a b := by
  rw [← part_at]
  pointwise [k0_pay2]

/-- The channels' sums. -/
theorem pay4_at (c : Fin 8) : k0_pay4 (F := Ideal) x0 (ix2 c 0) = ∑ i, ∑ j, x0 (ix3 c i j) := by
  pointwise [k0_pay4, k0_pay3]

/-- The channels' sums of squares. -/
theorem pay5_at (c : Fin 8) : k0_pay5 (F := Ideal) x0 (ix2 c 0) = ∑ i, ∑ j, x0 (ix3 c i j) * x0 (ix3 c i j) := by
  pointwise [k0_pay5, k0_pay3]

end Cert.KernelIdeal.Read0
-- ==== Proof.K0Val.lean ====
/-
  The three results of the first pipelined call, at coordinates: the sum of the channels' difference maps, each
  channel's sum, and each channel's sum of squares.
-/
module

public import proofs.«01_k».proof.Proof.IdealRun
public import proofs.«01_k».proof.Proof.K0Read
public import Idealize.ShloMosaic.Lib.Pipeline.ValueKit

@[expose] public section

set_option maxRecDepth 16384

noncomputable section

open Idealize.ShloMosaic Idealize.ShloMosaic.TcCoe Idealize.ShloMosaic.Pipeline
open Cert.KernelIdeal Cert.KernelIdeal.Gen Cert.KernelIdeal.Run

namespace Cert.KernelIdeal.Val0

variable (V : (c : Dev nD) → (b : Ref sig .tc) → Buf (Elt Ideal) ((c : Thread nD τ).loc b)) (c : Dev nD)

theorem idx0 : ∀ t : Fin cfg0.N, win0_0.index t = ![t.val, 0, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- A point is below twelve. -/
theorem lt12 (t : Fin cfg0.N) : t.val < 12 := lt_of_lt_of_eq t.isLt (show cfg0.N = 12 from N_0)

/-- The image's block at a point: its eight channels. -/
theorem blk_0 (t : Fin cfg0.N) (ch : Fin 8) (i j : Fin 224) :
    iblk0 V c 0 t (ix3 ch i j) = V c main_v0 (ix3 ⟨t.val * 8 + ch.val, by have := lt12 t; omega⟩ i j) := by
  obtain ⟨e0, -⟩ := idx0 t
  blk_ext [iblk0, e0]

/-- The first table is whole at every point. -/
theorem blk_1 (t : Fin cfg0.N) (i j : Fin 224) : iblk0 V c 1 t (ix2 i j) = V c main_cst (ix2 i j) := by
  obtain ⟨-, e1, -⟩ := idx0 t
  blk_ext [iblk0, e1]

/-- The second table is whole at every point. -/
theorem blk_2 (t : Fin cfg0.N) (i j : Fin 224) : iblk0 V c 2 t (ix2 i j) = V c main_cst_0 (ix2 i j) := by
  obtain ⟨-, -, e2, -⟩ := idx0 t
  blk_ext [iblk0, e2]

/-- One block's part of the difference map. -/
def part (n : Fin 12) (a b : Fin 224) : EReal :=
  ∑ ch : Fin 8, Spec.gap (fun i j => V c main_cst (ix2 i j)) (fun i j => V c main_cst_0 (ix2 i j))
    (fun i j => V c main_v0 (ix3 ⟨n.val * 8 + ch.val, by omega⟩ i j)) a b

theorem part_eq (t : Fin cfg0.N) (a b : Fin 224) :
    (∑ ch : Fin 8, Spec.gap (fun i j => iblk0 V c 1 t (ix2 i j)) (fun i j => iblk0 V c 2 t (ix2 i j))
      (fun i j => iblk0 V c 0 t (ix3 ch i j)) a b) = part V c ⟨t.val, lt12 t⟩ a b := by
  simp only [blk_0, blk_1, blk_2, part]

theorem out0_3A_at (x0 x1 x2) (a b : Fin 224) : out0_3A (F := Ideal) x0 x1 x2 (ix2 a b)
    = ∑ ch : Fin 8, Spec.gap (fun i j => x1 (ix2 i j)) (fun i j => x2 (ix2 i j)) (fun i j => x0 (ix3 ch i j)) a b := by
  unfold out0_3A part0
  rw [View.canon_unit_zero (by decide), View.ld_unit_zero (by decide), View.ld_unit_zero (by decide), View.ld_unit_zero (by decide)]
  exact Read0.part_at x0 x1 x2 a b

theorem out0_3B_at (x0 x1 x2 d) (a b : Fin 224) : out0_3B (F := Ideal) x0 x1 x2 d (ix2 a b)
    = d (ix2 a b) + ∑ ch : Fin 8, Spec.gap (fun i j => x1 (ix2 i j)) (fun i j => x2 (ix2 i j)) (fun i j => x0 (ix3 ch i j)) a b := by
  unfold out0_3B
  rw [View.canon_unit_zero (by decide), View.ld_unit_zero (by decide), View.ld_unit_zero (by decide), View.ld_unit_zero (by decide), View.ld_unit_zero (by decide)]
  exact Read0.step_at x0 x1 x2 d a b

/-- After point `n` the buffer holds the sum of the parts up to `n`. -/
theorem dfAt_at (n : ℕ) (h : n < cfg0.N) (a b : Fin 224) :
    dfAt V c n h (ix2 a b) = ∑ k : Fin (n + 1), part V c ⟨k.val, by have := lt12 ⟨n, h⟩; have := k.isLt; dsimp only at *; omega⟩ a b := by
  induction n with
  | zero =>
    rw [Fin.sum_univ_one]
    unfold dfAt
    rw [out0_3A_at, part_eq]
    rfl
  | succ n ih =>
    rw [Fin.sum_univ_castSucc]
    unfold dfAt
    rw [out0_3B_at, part_eq, ih (Nat.lt_of_succ_lt h)]
    rfl

/-- The image the call reads. -/
def img : FVec Ideal S96x224x224 .f32 := V c main_v0

/-- The difference map the call leaves. -/
def dmap : FVec Ideal S224x224 .f32 := fun i => ∑ ch : Fin 96,
  Spec.gap (fun i j => V c main_cst (ix2 i j)) (fun i j => V c main_cst_0 (ix2 i j)) (fun i j => img V c (ix3 ch i j)) (i 0) (i 1)

/-- Each channel's sum. -/
def sums : FVec Ideal S96x1 .f32 := fun i => ∑ a, ∑ b, img V c (ix3 (i 0) a b)

/-- Each channel's sum of squares. -/
def squares : FVec Ideal S96x1 .f32 := fun i => ∑ a, ∑ b, img V c (ix3 (i 0) a b) * img V c (ix3 (i 0) a b)

theorem dmap_eq : dmap V c = fun i : S224x224.Idx => ∑ k : Fin 12, part V c k (i 0) (i 1) := by
  funext i
  exact Fin.sum_univ_tiles 12 8 rfl (fun ch : Fin 96 => Spec.gap (fun i j => V c main_cst (ix2 i j)) (fun i j => V c main_cst_0 (ix2 i j))
      (fun i j => img V c (ix3 ch i j)) (i 0) (i 1))

theorem out0_4_at (x0) (ch : Fin 8) : out0_4 (F := Ideal) x0 (ix2 ch 0) = ∑ i, ∑ j, x0 (ix3 ch i j) := by
  unfold out0_4
  rw [View.canon_unit_zero (by decide), View.ld_unit_zero (by decide)]
  exact Read0.pay4_at x0 ch

theorem out0_5_at (x0) (ch : Fin 8) : out0_5 (F := Ideal) x0 (ix2 ch 0) = ∑ i, ∑ j, x0 (ix3 ch i j) * x0 (ix3 ch i j) := by
  unfold out0_5
  rw [View.canon_unit_zero (by decide), View.ld_unit_zero (by decide)]
  exact Read0.pay5_at x0 ch

/-- The first result is the difference map. -/
theorem arr3 : (dat0 V c).arrAt 3 cfg0.N = dmap V c := by
  rw [dmap_eq]
  refine (dat0 V c).arrAt_eq_of_after_last 3 t0_11 (by decide +kernel) _ fun j => ?_
  blk_simp
  rw [after0_3]
  exact (congrArg _ (ix2_eta j).symm).trans (dfAt_at V c 11 _ (j 0) (j 1))

/-- The second result is each channel's sum. -/
theorem arr4 : (dat0 V c).arrAt 4 cfg0.N = sums V c := by
  refine (dat0 V c).arrAt_eq_of_covers 4 _ (by decide +kernel) fun t hf y => ?_
  obtain ⟨-, -, -, -, e4, -⟩ := idx0 t
  obtain ⟨ch, hy⟩ : ∃ ch : Fin 8, y = ix2 (n1 := 1) ch 0 :=
    ⟨y 0, (eq_ix2 y).trans (congrArg (ix2 (y 0)) (Subsingleton.elim (α := Fin 1) _ _))⟩
  subst hy
  have hr : sums V c ((win0_4.blk t).view.emb (ix2 (n1 := 1) ch 0)) = sums V c (ix2 ⟨t.val * 8 + ch.val, by have := lt12 t; omega⟩ 0) := by
    blk_ext [e4]
  blk_simp
  rw [after0_4]
  refine (out0_4_at _ ch).trans (Eq.trans ?_ hr.symm)
  simp only [blk_0]
  rfl

/-- The third result is each channel's sum of squares. -/
theorem arr5 : (dat0 V c).arrAt 5 cfg0.N = squares V c := by
  refine (dat0 V c).arrAt_eq_of_covers 5 _ (by decide +kernel) fun t hf y => ?_
  obtain ⟨-, -, -, -, -, e5⟩ := idx0 t
  obtain ⟨ch, hy⟩ : ∃ ch : Fin 8, y = ix2 (n1 := 1) ch 0 :=
    ⟨y 0, (eq_ix2 y).trans (congrArg (ix2 (y 0)) (Subsingleton.elim (α := Fin 1) _ _))⟩
  subst hy
  have hr : squares V c ((win0_5.blk t).view.emb (ix2 (n1 := 1) ch 0)) = squares V c (ix2 ⟨t.val * 8 + ch.val, by have := lt12 t; omega⟩ 0) := by
    blk_ext [e5]
  blk_simp
  rw [after0_5]
  refine (out0_5_at _ ch).trans (Eq.trans ?_ hr.symm)
  simp only [blk_0]
  rfl

end Cert.KernelIdeal.Val0
-- ==== Proof.KRead.lean ====
/- What the stored values of the second region's body are at an index, given the zero-padded image its blocks hold. -/
module

public import proofs.«01_k».proof.Proof.Gen.KernelIdeal.Skeleton
public import proofs.«01_k».proof.Proof.SpecLemmas

@[expose] public section

set_option maxRecDepth 16384

noncomputable section

namespace Cert.KernelIdeal.Read

open Cert.KernelIdeal Cert.KernelIdeal.Gen
open Idealize.ShloMosaic Idealize.ShloMosaic.TcCoe

variable (P : Fin 96 → ℕ → ℕ → EReal) (B : ℕ)

/-- The strip one row up: the row above the strip, then all but the strip's last row. -/
theorem pay3_at (v0 : FVec Ideal S96x16x226 .f32) (v2 : FVec Ideal S1x96x226 .f32)
    (h1 : ∀ (c : Fin 96) (r : Fin 16) (q : Fin 226), v0 (ix3 c r q) = P c (B + r + 1) q)
    (h2 : ∀ (c : Fin 96) (q : Fin 226), v2 (ix3 0 c q) = P c B q) (c : Fin 96) (r : Fin 16) (q : Fin 226) :
    k1_pay3 (F := Ideal) v0 v2 (ix3 c r q) = P c (B + r) q := by
  pointwise [k1_pay3, k1_pay2, h1, h2]
  by_cases h : (r : ℕ) < 1
  · rw [dif_pos h]; congr 1; omega
  · rw [dif_neg h]; congr 1; omega

/-- The strip one row down: all but the strip's first row, then the row below the strip. -/
theorem pay4_at (v0 : FVec Ideal S96x16x226 .f32) (v2 : FVec Ideal S1x96x226 .f32)
    (h1 : ∀ (c : Fin 96) (r : Fin 16) (q : Fin 226), v0 (ix3 c r q) = P c (B + r + 1) q)
    (h2 : ∀ (c : Fin 96) (q : Fin 226), v2 (ix3 0 c q) = P c (B + 17) q) (c : Fin 96) (r : Fin 16) (q : Fin 226) :
    k1_pay4 (F := Ideal) v0 v2 (ix3 c r q) = P c (B + r + 2) q := by
  pointwise [k1_pay4, k1_pay2, h1, h2]
  by_cases h : (r : ℕ) < 15
  · rw [dif_pos h]; congr 1; omega
  · rw [dif_neg h]; congr 1; omega

section
variable (v1 v9 v11 : FVec Ideal S96x16x226 .f32)

/-- The norms over the strip and the rows around it. -/
theorem pay12_at
    (h9 : ∀ (c : Fin 96) (r : Fin 16) (q : Fin 226), v9 (ix3 c r q) = P c (B + r) q)
    (h11 : ∀ (c : Fin 96) (r : Fin 16) (q : Fin 226), v11 (ix3 c r q) = P c (B + r + 2) q) (i : Fin 18) (q : Fin 226) :
    k1_pay12 (F := Ideal) v9 v11 (ix2 i q) = Spec.nrm P (B + i) q := by
  pointwise [k1_pay12, h9, h11, Spec.nrm, Spec.eps]
  by_cases h : (i : ℕ) < 16
  · rw [dif_pos h]
  · rw [dif_neg h]
    have e : B + (14 + ((i : ℕ) - 16)) + 2 = B + i := by omega
    simp only [e]

variable (v77 : FVec Ideal S18x226 .f32)

/-- The reciprocal norms. -/
theorem pay14_at (h77 : ∀ (i : Fin 18) (q : Fin 226), v77 (ix2 i q) = Spec.nrm P (B + i) q) (i : Fin 18) (q : Fin 226) :
    k1_pay14 (F := Ideal) v77 k1_pay13 (ix2 i q) = Ideal.div 1 (Spec.nrm P (B + i) q) := by
  pointwise [k1_pay14, k1_pay13, h77]

variable (h1 : ∀ (c : Fin 96) (r : Fin 16) (q : Fin 226), v1 (ix3 c r q) = P c (B + r + 1) q)
    (h9 : ∀ (c : Fin 96) (r : Fin 16) (q : Fin 226), v9 (ix3 c r q) = P c (B + r) q)
    (h11 : ∀ (c : Fin 96) (r : Fin 16) (q : Fin 226), v11 (ix3 c r q) = P c (B + r + 2) q)
    (h77 : ∀ (i : Fin 18) (q : Fin 226), v77 (ix2 i q) = Spec.nrm P (B + i) q)
include h77

include h1 h9 in
/-- The similarity with neighbour 0. -/
theorem sim0_at (r : Fin 16) (q : Fin 224) :
    k1_pay17 (F := Ideal) v1 v9 v77 k1_pay13 (ix2 r q) = Spec.sim P (B + r) q 0 := by
  pointwise [k1_pay17, k1_pay13, k1_pay14, k1_pay15, k1_pay16, h1, h9, h77, Spec.sim]
  simp only [Nat.add_comm 1, Nat.add_comm 2, Nat.add_assoc, Nat.reduceAdd, Fin.val_ofNat, Nat.reduceMod, Nat.reduceDiv, Nat.add_zero, Nat.zero_add]

include h1 h9 in
/-- The similarity with neighbour 1. -/
theorem sim1_at (r : Fin 16) (q : Fin 224) :
    k1_pay18 (F := Ideal) v1 v9 v77 k1_pay13 (ix2 r q) = Spec.sim P (B + r) q 1 := by
  pointwise [k1_pay18, k1_pay13, k1_pay14, k1_pay15, k1_pay16, h1, h9, h77, Spec.sim]
  simp only [Nat.add_comm 1, Nat.add_comm 2, Nat.add_assoc, Nat.reduceAdd, Fin.val_ofNat, Nat.reduceMod, Nat.reduceDiv, Nat.add_zero, Nat.zero_add]

include h1 h9 in
/-- The similarity with neighbour 2. -/
theorem sim2_at (r : Fin 16) (q : Fin 224) :
    k1_pay19 (F := Ideal) v1 v9 v77 k1_pay13 (ix2 r q) = Spec.sim P (B + r) q 2 := by
  pointwise [k1_pay19, k1_pay13, k1_pay14, k1_pay15, k1_pay16, h1, h9, h77, Spec.sim]
  simp only [Nat.add_comm 1, Nat.add_comm 2, Nat.add_assoc, Nat.reduceAdd, Fin.val_ofNat, Nat.reduceMod, Nat.reduceDiv, Nat.add_zero, Nat.zero_add]

include h1 in
/-- The similarity with neighbour 3. -/
theorem sim3_at (r : Fin 16) (q : Fin 224) :
    k1_pay20 (F := Ideal) v1 v77 k1_pay13 (ix2 r q) = Spec.sim P (B + r) q 3 := by
  pointwise [k1_pay20, k1_pay13, k1_pay14, k1_pay15, k1_pay16, h1, h77, Spec.sim]
  simp only [Nat.add_comm 1, Nat.add_comm 2, Nat.add_assoc, Nat.reduceAdd, Fin.val_ofNat, Nat.reduceMod, Nat.reduceDiv, Nat.add_zero, Nat.zero_add]

include h1 in
/-- The similarity with neighbour 4. -/
theorem sim4_at (r : Fin 16) (q : Fin 224) :
    k1_pay21 (F := Ideal) v1 v77 k1_pay13 (ix2 r q) = Spec.sim P (B + r) q 4 := by
  pointwise [k1_pay21, k1_pay13, k1_pay14, k1_pay15, k1_pay16, h1, h77, Spec.sim]
  simp only [Nat.add_comm 1, Nat.add_comm 2, Nat.add_assoc, Nat.reduceAdd, Fin.val_ofNat, Nat.reduceMod, Nat.reduceDiv, Nat.add_zero, Nat.zero_add]

include h1 in
/-- The similarity with neighbour 5. -/
theorem sim5_at (r : Fin 16) (q : Fin 224) :
    k1_pay22 (F := Ideal) v1 v77 k1_pay13 (ix2 r q) = Spec.sim P (B + r) q 5 := by
  pointwise [k1_pay22, k1_pay13, k1_pay14, k1_pay15, k1_pay16, h1, h77, Spec.sim]
  simp only [Nat.add_comm 1, Nat.add_comm 2, Nat.add_assoc, Nat.reduceAdd, Fin.val_ofNat, Nat.reduceMod, Nat.reduceDiv, Nat.add_zero, Nat.zero_add]

include h1 h11 in
/-- The similarity with neighbour 6. -/
theorem sim6_at (r : Fin 16) (q : Fin 224) :
    k1_pay23 (F := Ideal) v1 v11 v77 k1_pay13 (ix2 r q) = Spec.sim P (B + r) q 6 := by
  pointwise [k1_pay23, k1_pay13, k1_pay14, k1_pay15, k1_pay16, h1, h11, h77, Spec.sim]
  simp only [Nat.add_comm 1, Nat.add_comm 2, Nat.add_assoc, Nat.reduceAdd, Fin.val_ofNat, Nat.reduceMod, Nat.reduceDiv, Nat.add_zero, Nat.zero_add]

include h1 h11 in
/-- The similarity with neighbour 7. -/
theorem sim7_at (r : Fin 16) (q : Fin 224) :
    k1_pay24 (F := Ideal) v1 v11 v77 k1_pay13 (ix2 r q) = Spec.sim P (B + r) q 7 := by
  pointwise [k1_pay24, k1_pay13, k1_pay14, k1_pay15, k1_pay16, h1, h11, h77, Spec.sim]
  simp only [Nat.add_comm 1, Nat.add_comm 2, Nat.add_assoc, Nat.reduceAdd, Fin.val_ofNat, Nat.reduceMod, Nat.reduceDiv, Nat.add_zero, Nat.zero_add]

include h1 h11 in
/-- The similarity with neighbour 8. -/
theorem sim8_at (r : Fin 16) (q : Fin 224) :
    k1_pay26 (F := Ideal) (k1_pay14 v77 k1_pay13) (k1_pay15 v77 k1_pay13) (k1_pay25 v1 v11) (ix2 r q) = Spec.sim P (B + r) q 8 := by
  pointwise [k1_pay26, k1_pay13, k1_pay14, k1_pay15, k1_pay16, k1_pay25, h1, h11, h77, Spec.sim]
  simp only [Nat.add_comm 1, Nat.add_comm 2, Nat.add_assoc, Nat.reduceAdd, Fin.val_ofNat, Nat.reduceMod, Nat.reduceDiv, Nat.add_zero, Nat.zero_add]

end

section Weights
variable (S : Fin 9 → FVec Ideal S16x224 .f32) (k : IVec S16x224 32) (r : Fin 16) (q : Fin 224)

/-- The weight of neighbour 0. -/
theorem wt0_at (v79 : FVec Ideal S18x226 .f32) (v80 : FVec Ideal S16x224 .f32) (v130 : FVec Ideal S96x16x224 .f32) (h : k1_pay26 v79 v80 v130 = S 8) :
    k1_pay27 k v79 v80 (S 0) (S 1) (S 2) (S 3) (S 4) (S 5) (S 6) (S 7) v130 (ix2 r q) = Spec.wt (fun d => S d (ix2 r q)) (k (ix2 r q)) 0 := by
  pointwise [k1_pay27, h]
  rw [Spec.slt_sum, Spec.sitofp_bit]
  simp only [Spec.toNat_ofBool_decide, Spec.wt, Spec.rank, Spec.sum9]
  simp [Spec.before]

/-- The weight of neighbour 1. -/
theorem wt1_at (v79 : FVec Ideal S18x226 .f32) (v80 : FVec Ideal S16x224 .f32) (v130 : FVec Ideal S96x16x224 .f32) (h : k1_pay26 v79 v80 v130 = S 8) :
    k1_pay30 k (S 1) (k1_pay28 (S 0) (S 1) (S 2) (S 3) (S 4) (S 5) (S 6) (S 7)) (k1_pay29 v79 v80 (S 1) v130) (ix2 r q) = Spec.wt (fun d => S d (ix2 r q)) (k (ix2 r q)) 1 := by
  pointwise [k1_pay30, k1_pay28, k1_pay29, h]
  rw [Spec.slt_sum, Spec.sitofp_bit]
  simp only [Spec.toNat_ofBool_decide, Spec.wt, Spec.rank, Spec.sum9]
  simp [Spec.before]

/-- The weight of neighbour 2. -/
theorem wt2_at :
    k1_pay31 k (S 0) (S 1) (S 2) (S 3) (S 4) (S 5) (S 6) (S 7) (S 8) (ix2 r q) = Spec.wt (fun d => S d (ix2 r q)) (k (ix2 r q)) 2 := by
  pointwise [k1_pay31]
  rw [Spec.slt_sum, Spec.sitofp_bit]
  simp only [Spec.toNat_ofBool_decide, Spec.wt, Spec.rank, Spec.sum9]
  simp [Spec.before]

/-- The weight of neighbour 3. -/
theorem wt3_at :
    k1_pay34 k (S 3) (S 7) (S 8) (k1_pay33 (S 0) (S 1) (S 2) (S 3) (S 4) (S 5) (S 6)) (ix2 r q) = Spec.wt (fun d => S d (ix2 r q)) (k (ix2 r q)) 3 := by
  pointwise [k1_pay34, k1_pay33]
  rw [Spec.slt_sum, Spec.sitofp_bit]
  simp only [Spec.toNat_ofBool_decide, Spec.wt, Spec.rank, Spec.sum9]
  simp [Spec.before]

/-- The weight of neighbour 4. -/
theorem wt4_at :
    k1_pay35 k (S 0) (S 1) (S 2) (S 3) (S 4) (S 5) (S 6) (S 7) (S 8) (ix2 r q) = Spec.wt (fun d => S d (ix2 r q)) (k (ix2 r q)) 4 := by
  pointwise [k1_pay35]
  rw [Spec.slt_sum, Spec.sitofp_bit]
  simp only [Spec.toNat_ofBool_decide, Spec.wt, Spec.rank, Spec.sum9]
  simp [Spec.before]

/-- The weight of neighbour 5. -/
theorem wt5_at :
    k1_pay39 k (S 5) (S 6) (S 7) (S 8) (k1_pay37 (S 0) (S 1) (S 2) (S 3) (S 5)) (k1_pay38 (S 4) (S 5)) (ix2 r q) = Spec.wt (fun d => S d (ix2 r q)) (k (ix2 r q)) 5 := by
  pointwise [k1_pay39, k1_pay37, k1_pay38]
  rw [Spec.slt_sum, Spec.sitofp_bit]
  simp only [Spec.toNat_ofBool_decide, Spec.wt, Spec.rank, Spec.sum9]
  simp [Spec.before]

/-- The weight of neighbour 6. -/
theorem wt6_at :
    k1_pay40 k (S 0) (S 1) (S 2) (S 3) (S 4) (S 5) (S 6) (S 7) (S 8) (ix2 r q) = Spec.wt (fun d => S d (ix2 r q)) (k (ix2 r q)) 6 := by
  pointwise [k1_pay40]
  rw [Spec.slt_sum, Spec.sitofp_bit]
  simp only [Spec.toNat_ofBool_decide, Spec.wt, Spec.rank, Spec.sum9]
  simp [Spec.before]

/-- The weight of neighbour 7. -/
theorem wt7_at :
    k1_pay44 k (S 4) (S 5) (S 6) (S 7) (S 8) (k1_pay42 (S 0) (S 1) (S 2) (S 7)) (k1_pay43 (S 3) (S 7)) (ix2 r q) = Spec.wt (fun d => S d (ix2 r q)) (k (ix2 r q)) 7 := by
  pointwise [k1_pay44, k1_pay42, k1_pay43]
  rw [Spec.slt_sum, Spec.sitofp_bit]
  simp only [Spec.toNat_ofBool_decide, Spec.wt, Spec.rank, Spec.sum9]
  simp [Spec.before]

/-- The weight of neighbour 8. -/
theorem wt8_at :
    k1_pay45 k (S 0) (S 1) (S 2) (S 3) (S 4) (S 5) (S 6) (S 7) (S 8) (ix2 r q) = Spec.wt (fun d => S d (ix2 r q)) (k (ix2 r q)) 8 := by
  pointwise [k1_pay45]
  rw [Spec.slt_sum, Spec.sitofp_bit]
  simp only [Spec.toNat_ofBool_decide, Spec.wt, Spec.rank, Spec.sum9]
  simp [Spec.before]

end Weights

section Mix
variable (W : Fin 9 → FVec Ideal S16x224 .f32) (k : IVec S16x224 32) (r : Fin 16) (q : Fin 224)

/-- The sum of the first three weights. -/
theorem pay32_at (v79 : FVec Ideal S18x226 .f32) (v80 s0 s1 s2 s3 s4 s5 s6 s7 s8 : FVec Ideal S16x224 .f32) (w0 w2 : FVec Ideal S16x224 .f32) (a : IVec S16x224 32) (b : IVec S16x224 1)
    (h1 : k1_pay30 k s1 a b = W 1) (h2 : k1_pay31 k s0 s1 s2 s3 s4 s5 s6 s7 s8 = W 2) :
    k1_pay32 k s0 s1 s2 s3 s4 s5 s6 s7 s8 (W 0) a b (ix2 r q) = W 0 (ix2 r q) + W 1 (ix2 r q) + W 2 (ix2 r q) := by
  pointwise [k1_pay32, h1, h2]

/-- The sum of the first five weights. -/
theorem pay36_at (s0 s1 s2 s3 s4 s5 s6 s7 s8 v : FVec Ideal S16x224 .f32) (a : IVec S16x224 32)
    (h3 : k1_pay34 k s3 s7 s8 a = W 3) (h4 : k1_pay35 k s0 s1 s2 s3 s4 s5 s6 s7 s8 = W 4) :
    k1_pay36 k s0 s1 s2 s3 s4 s5 s6 s7 s8 v a (ix2 r q) = v (ix2 r q) + W 3 (ix2 r q) + W 4 (ix2 r q) := by
  pointwise [k1_pay36, h3, h4]

/-- The sum of the first seven weights. -/
theorem pay41_at (s0 s1 s2 s3 s4 s5 s6 s7 s8 v : FVec Ideal S16x224 .f32) (a b : IVec S16x224 32)
    (h5 : k1_pay39 k s5 s6 s7 s8 a b = W 5) (h6 : k1_pay40 k s0 s1 s2 s3 s4 s5 s6 s7 s8 = W 6) :
    k1_pay41 k s0 s1 s2 s3 s4 s5 s6 s7 s8 v a b (ix2 r q) = v (ix2 r q) + W 5 (ix2 r q) + W 6 (ix2 r q) := by
  pointwise [k1_pay41, h5, h6]

/-- The reciprocal of the sum of the weights. -/
theorem pay46_at (s0 s1 s2 s3 s4 s5 s6 s7 s8 v : FVec Ideal S16x224 .f32) (a : IVec S16x224 32) (b : IVec S16x224 1)
    (h7 : k1_pay44 k s4 s5 s6 s7 s8 a b = W 7) (h8 : k1_pay45 k s0 s1 s2 s3 s4 s5 s6 s7 s8 = W 8)
    (hv : v (ix2 r q) = W 0 (ix2 r q) + W 1 (ix2 r q) + W 2 (ix2 r q) + W 3 (ix2 r q) + W 4 (ix2 r q) + W 5 (ix2 r q) + W 6 (ix2 r q)) :
    k1_pay46 k s0 s1 s2 s3 s4 s5 s6 s7 s8 v a b (ix2 r q) = Ideal.div 1 (∑ d, W d (ix2 r q)) := by
  pointwise [k1_pay46, h7, h8]
  rw [hv, Spec.sum9]

variable (v1 v9 v11 : FVec Ideal S96x16x226 .f32)
    (h1 : ∀ (c : Fin 96) (r : Fin 16) (q : Fin 226), v1 (ix3 c r q) = P c (B + r + 1) q)
    (h9 : ∀ (c : Fin 96) (r : Fin 16) (q : Fin 226), v9 (ix3 c r q) = P c (B + r) q)
    (h11 : ∀ (c : Fin 96) (r : Fin 16) (q : Fin 226), v11 (ix3 c r q) = P c (B + r + 2) q)
include h1 h9 h11

/-- The image after the mixing and the normalisation, at a pixel of the strip laid out row by row. -/
theorem pay48_at (s0 s1 s2 s3 s4 s5 s6 s7 s8 v w : FVec Ideal S16x224 .f32) (a : IVec S16x224 32) (b : IVec S16x224 1)
   (sc sh : FVec Ideal S96x1 .f32) (v68 : IVec S16x224 1) (c : Fin 96) (p : Fin 3584)
    (hw : k1_pay46 k s0 s1 s2 s3 s4 s5 s6 s7 s8 v a b = w) (hp : (p : ℕ) / 224 = r) (hq : (p : ℕ) % 224 = q)
    (hw' : w (ix2 r q) = Ideal.div 1 (∑ d, W d (ix2 r q))) (cn : EReal) (h68 : v68 (ix2 r q) = BitVec.ofBool (decide (1 < cn))) :
    k1_pay48 v1 v9 v11 sc sh v68 (k1_pay16 v1) (W 1) (W 2) (W 3) (W 4) (W 5) (W 6) (W 7) (W 8) (k1_pay46 k s0 s1 s2 s3 s4 s5 s6 s7 s8 v a b)
      (k1_pay47 v9 k s0 s1 s2 s3 s4 s5 s6 s7 s8 (W 0) v a b) (ix2 c p)
      = (if 1 < cn then ∑ d : Fin 9, W d (ix2 r q) * Ideal.div 1 (∑ d, W d (ix2 r q)) * P c (B + r + d.val / 3) (q + d.val % 3) else P c (B + r + 1) (q + 1))
        + (P c (B + r + 1) (q + 1) * sc (ix2 c 0) + sh (ix2 c 0)) := by
  pointwise [k1_pay48, k1_pay47, k1_pay16, h1, h9, h11, hw]
  have er : (⟨(p : ℕ) / 224, by omega⟩ : Fin 16) = r := Fin.ext hp
  have eq : (⟨(p : ℕ) % 224, by omega⟩ : Fin 224) = q := Fin.ext hq
  rw [er, eq, hp, hq, h68, hw', ← add_assoc]
  congr 1
  rw [Nat.add_comm 1, Nat.add_comm 2]
  congr 1
  rw [Spec.sum9 (fun d => W d (ix2 r q) * Ideal.div 1 (∑ d, W d (ix2 r q)) * P c (B + r + d.val / 3) (q + d.val % 3))]
  by_cases hc : 1 < cn
  · simp only [hc, if_true, decide_true]; rfl
  · simp only [hc, if_false, decide_false]; rfl

omit h1 h9 h11

/-- The network's result at a pixel of the strip. -/
theorem pay1_at (E : Fin 96 → EReal) (v478 : FVec Ideal S96x3584 .f32) (w1 : FVec Ideal S192x96 .f32) (b1 : FVec Ideal S192x1 .f32) (w2 : FVec Ideal S96x192 .f32) (b2 : FVec Ideal S96x1 .f32)
    (o : Fin 96) (hE : ∀ c, v478 (ix2 c ⟨(r : ℕ) * 224 + q, by omega⟩) = E c) :
    k1_pay1 v478 w1 b1 w2 b2 (ix3 o r q)
      = Spec.ffn (fun k c => w1 (ix2 k c)) (fun k => b1 (ix2 k 0)) (fun o k => w2 (ix2 o k)) (fun o => b2 (ix2 o 0)) E o := by
  pointwise [k1_pay1, hE, Spec.ffn]
  rw [add_assoc]

/-- The connection count of a pixel of the strip. -/
theorem pay9_at (v33 : FVec Ideal S224x224 .f32) (v43 : FVec Ideal S16x224 .f32) :
    k1_pay9 (F := Ideal) v33 v43 (ix2 r q)
      = Spec.conn (Spec.least fun a b => v33 (ix2 a b)) (Spec.greatest fun a b => v33 (ix2 a b)) (v43 (ix2 r q)) := by
  pointwise [k1_pay9]
  rw [Spec.sitofp_bit]
  rfl

/-- The number of neighbours a pixel is mixed from. -/
theorem pay10_at (v33 : FVec Ideal S224x224 .f32) (v43 : FVec Ideal S16x224 .f32) :
    k1_pay10 (F := Ideal) v33 v43 (ix2 r q)
      = Spec.kcount (Spec.conn (Spec.least fun a b => v33 (ix2 a b)) (Spec.greatest fun a b => v33 (ix2 a b)) (v43 (ix2 r q))) := by
  rw [← pay9_at]
  pointwise [k1_pay10, Spec.kcount]
  rfl

/-- Whether a pixel is mixed at all. -/
theorem pay11_at (v33 : FVec Ideal S224x224 .f32) (v43 : FVec Ideal S16x224 .f32) :
    k1_pay11 (F := Ideal) v33 v43 (ix2 r q)
      = BitVec.ofBool (decide (1 < Spec.conn (Spec.least fun a b => v33 (ix2 a b)) (Spec.greatest fun a b => v33 (ix2 a b)) (v43 (ix2 r q)))) := by
  rw [← pay9_at]
  pointwise [k1_pay11]

/-- The group's mean, from the channel sums. -/
theorem pay6_at (s1 : FVec Ideal S96x1 .f32) (g : FVec Ideal S96x96 .f32) (c : Fin 96) :
    k1_pay6 (F := Ideal) s1 g (ix2 c 0) = ∑ j, g (ix2 c j) * ((1 / 150528 : ℝ) : EReal) * s1 (ix2 j 0) := by
  pointwise [k1_pay6, k1_pay5]
  rw [IdealRules.named_const.ideal_named_scalar _ _ _ _ rfl]

/-- The normalisation's factor. -/
theorem pay7_at (s1 s2 w : FVec Ideal S96x1 .f32) (g : FVec Ideal S96x96 .f32) (c : Fin 96) :
    k1_pay7 (F := Ideal) s1 s2 g w (ix2 c 0) = Spec.scale (∑ j, g (ix2 c j) * ((1 / 150528 : ℝ) : EReal) * s1 (ix2 j 0))
      (∑ j, g (ix2 c j) * ((1 / 150528 : ℝ) : EReal) * s2 (ix2 j 0)) (w (ix2 c 0)) := by
  rw [← pay6_at, ← pay6_at]
  pointwise [k1_pay7, k1_pay6, Spec.scale]

/-- The normalisation's shift. -/
theorem pay8_at (s1 s2 w b : FVec Ideal S96x1 .f32) (g : FVec Ideal S96x96 .f32) (c : Fin 96) :
    k1_pay8 (F := Ideal) s1 s2 g w b (ix2 c 0) = b (ix2 c 0) - (∑ j, g (ix2 c j) * ((1 / 150528 : ℝ) : EReal) * s1 (ix2 j 0)) * k1_pay7 (F := Ideal) s1 s2 g w (ix2 c 0) := by
  rw [← pay6_at]
  pointwise [k1_pay8]

end Mix

end Cert.KernelIdeal.Read
-- ==== Proof.K1Out.lean ====
/-
  The value the second pipelined call's body stores, at a pixel of its strip: the network applied to the mixed image
  plus the normalised image.
-/
module

public import proofs.«01_k».proof.Proof.IdealRun
public import proofs.«01_k».proof.Proof.KRead

@[expose] public section

set_option maxRecDepth 16384

noncomputable section

open Idealize.ShloMosaic Idealize.ShloMosaic.TcCoe
open Cert.KernelIdeal Cert.KernelIdeal.Gen Cert.KernelIdeal.Run

namespace Cert.KernelIdeal.Out1

section
variable (S : Fin 9 → FVec Ideal S16x224 .f32) (k : IVec S16x224 32) (v79 : FVec Ideal S18x226 .f32) (v80 : FVec Ideal S16x224 .f32)
  (v130 : FVec Ideal S96x16x224 .f32)

/-- The nine weights. -/
def wts : Fin 9 → FVec Ideal S16x224 .f32 := ![
  k1_pay27 k v79 v80 (S 0) (S 1) (S 2) (S 3) (S 4) (S 5) (S 6) (S 7) v130,
  k1_pay30 k (S 1) (k1_pay28 (S 0) (S 1) (S 2) (S 3) (S 4) (S 5) (S 6) (S 7)) (k1_pay29 v79 v80 (S 1) v130),
  k1_pay31 k (S 0) (S 1) (S 2) (S 3) (S 4) (S 5) (S 6) (S 7) (S 8),
  k1_pay34 k (S 3) (S 7) (S 8) (k1_pay33 (S 0) (S 1) (S 2) (S 3) (S 4) (S 5) (S 6)),
  k1_pay35 k (S 0) (S 1) (S 2) (S 3) (S 4) (S 5) (S 6) (S 7) (S 8),
  k1_pay39 k (S 5) (S 6) (S 7) (S 8) (k1_pay37 (S 0) (S 1) (S 2) (S 3) (S 5)) (k1_pay38 (S 4) (S 5)),
  k1_pay40 k (S 0) (S 1) (S 2) (S 3) (S 4) (S 5) (S 6) (S 7) (S 8),
  k1_pay44 k (S 4) (S 5) (S 6) (S 7) (S 8) (k1_pay42 (S 0) (S 1) (S 2) (S 7)) (k1_pay43 (S 3) (S 7)),
  k1_pay45 k (S 0) (S 1) (S 2) (S 3) (S 4) (S 5) (S 6) (S 7) (S 8)]

theorem wts_at (h8 : k1_pay26 v79 v80 v130 = S 8) (r : Fin 16) (q : Fin 224) (d : Fin 9) :
    wts S k v79 v80 v130 d (ix2 r q) = Spec.wt (fun d => S d (ix2 r q)) (k (ix2 r q)) d :=
  match d with
  | ⟨0, _⟩ => Read.wt0_at S k r q v79 v80 v130 h8
  | ⟨1, _⟩ => Read.wt1_at S k r q v79 v80 v130 h8
  | ⟨2, _⟩ => Read.wt2_at S k r q
  | ⟨3, _⟩ => Read.wt3_at S k r q
  | ⟨4, _⟩ => Read.wt4_at S k r q
  | ⟨5, _⟩ => Read.wt5_at S k r q
  | ⟨6, _⟩ => Read.wt6_at S k r q
  | ⟨7, _⟩ => Read.wt7_at S k r q
  | ⟨8, _⟩ => Read.wt8_at S k r q

/-- The sum of the first seven weights. -/
theorem sum7_at (r : Fin 16) (q : Fin 224) (W : Fin 9 → FVec Ideal S16x224 .f32) (hW : W = wts S k v79 v80 v130) :
    k1_pay41 k (S 0) (S 1) (S 2) (S 3) (S 4) (S 5) (S 6) (S 7) (S 8) (k1_pay36 k (S 0) (S 1) (S 2) (S 3) (S 4) (S 5) (S 6) (S 7) (S 8) (k1_pay32 k (S 0) (S 1) (S 2) (S 3) (S 4) (S 5) (S 6) (S 7) (S 8) (W 0) (k1_pay28 (S 0) (S 1) (S 2) (S 3) (S 4) (S 5) (S 6) (S 7)) (k1_pay29 v79 v80 (S 1) v130)) (k1_pay33 (S 0) (S 1) (S 2) (S 3) (S 4) (S 5) (S 6)))
      (k1_pay37 (S 0) (S 1) (S 2) (S 3) (S 5)) (k1_pay38 (S 4) (S 5)) (ix2 r q)
      = W 0 (ix2 r q) + W 1 (ix2 r q) + W 2 (ix2 r q) + W 3 (ix2 r q) + W 4 (ix2 r q) + W 5 (ix2 r q) + W 6 (ix2 r q) := by
  have e1 : k1_pay30 k (S 1) (k1_pay28 (S 0) (S 1) (S 2) (S 3) (S 4) (S 5) (S 6) (S 7)) (k1_pay29 v79 v80 (S 1) v130) = W 1 := by subst hW; rfl
  have e2 : k1_pay31 k (S 0) (S 1) (S 2) (S 3) (S 4) (S 5) (S 6) (S 7) (S 8) = W 2 := by subst hW; rfl
  have e3 : k1_pay34 k (S 3) (S 7) (S 8) (k1_pay33 (S 0) (S 1) (S 2) (S 3) (S 4) (S 5) (S 6)) = W 3 := by subst hW; rfl
  have e4 : k1_pay35 k (S 0) (S 1) (S 2) (S 3) (S 4) (S 5) (S 6) (S 7) (S 8) = W 4 := by subst hW; rfl
  have e5 : k1_pay39 k (S 5) (S 6) (S 7) (S 8) (k1_pay37 (S 0) (S 1) (S 2) (S 3) (S 5)) (k1_pay38 (S 4) (S 5)) = W 5 := by subst hW; rfl
  have e6 : k1_pay40 k (S 0) (S 1) (S 2) (S 3) (S 4) (S 5) (S 6) (S 7) (S 8) = W 6 := by subst hW; rfl
  rw [Read.pay41_at W k r q _ _ _ _ _ _ _ _ _ _ _ _ e5 e6, Read.pay36_at W k r q _ _ _ _ _ _ _ _ _ _ _ e3 e4,
    Read.pay32_at W k r q v79 v80 _ _ _ _ _ _ _ _ _ v80 v80 _ _ e1 e2]

variable (P : Fin 96 → ℕ → ℕ → EReal) (B : ℕ) (v1 v9 v11 : FVec Ideal S96x16x226 .f32)
    (h1 : ∀ (c : Fin 96) (r : Fin 16) (q : Fin 226), v1 (ix3 c r q) = P c (B + r + 1) q)
    (h9 : ∀ (c : Fin 96) (r : Fin 16) (q : Fin 226), v9 (ix3 c r q) = P c (B + r) q)
    (h11 : ∀ (c : Fin 96) (r : Fin 16) (q : Fin 226), v11 (ix3 c r q) = P c (B + r + 2) q)
include h1 h9 h11

/-- The mixed image plus the scaled and shifted image, at a pixel of the strip. -/
theorem mixed_at (hS : ∀ (d : Fin 9) (r : Fin 16) (q : Fin 224), S d (ix2 r q) = Spec.sim P (B + r) q d)
    (h8 : k1_pay26 v79 v80 v130 = S 8) (sc sh : FVec Ideal S96x1 .f32) (v68 : IVec S16x224 1) (w0 : FVec Ideal S16x224 .f32)
    (hw0 : k1_pay27 k v79 v80 (S 0) (S 1) (S 2) (S 3) (S 4) (S 5) (S 6) (S 7) v130 = w0) (c : Fin 96) (r : Fin 16) (q : Fin 224) (cn : EReal)
    (hk : k (ix2 r q) = Spec.kcount cn) (h68 : v68 (ix2 r q) = BitVec.ofBool (decide (1 < cn))) :
    k1_pay48 v1 v9 v11 sc sh v68 (k1_pay16 v1) (k1_pay30 k (S 1) (k1_pay28 (S 0) (S 1) (S 2) (S 3) (S 4) (S 5) (S 6) (S 7)) (k1_pay29 v79 v80 (S 1) v130)) (k1_pay31 k (S 0) (S 1) (S 2) (S 3) (S 4) (S 5) (S 6) (S 7) (S 8)) (k1_pay34 k (S 3) (S 7) (S 8) (k1_pay33 (S 0) (S 1) (S 2) (S 3) (S 4) (S 5) (S 6))) (k1_pay35 k (S 0) (S 1) (S 2) (S 3) (S 4) (S 5) (S 6) (S 7) (S 8)) (k1_pay39 k (S 5) (S 6) (S 7) (S 8) (k1_pay37 (S 0) (S 1) (S 2) (S 3) (S 5)) (k1_pay38 (S 4) (S 5))) (k1_pay40 k (S 0) (S 1) (S 2) (S 3) (S 4) (S 5) (S 6) (S 7) (S 8)) (k1_pay44 k (S 4) (S 5) (S 6) (S 7) (S 8) (k1_pay42 (S 0) (S 1) (S 2) (S 7)) (k1_pay43 (S 3) (S 7))) (k1_pay45 k (S 0) (S 1) (S 2) (S 3) (S 4) (S 5) (S 6) (S 7) (S 8))
      (k1_pay46 k (S 0) (S 1) (S 2) (S 3) (S 4) (S 5) (S 6) (S 7) (S 8) (k1_pay41 k (S 0) (S 1) (S 2) (S 3) (S 4) (S 5) (S 6) (S 7) (S 8) (k1_pay36 k (S 0) (S 1) (S 2) (S 3) (S 4) (S 5) (S 6) (S 7) (S 8) (k1_pay32 k (S 0) (S 1) (S 2) (S 3) (S 4) (S 5) (S 6) (S 7) (S 8) w0 (k1_pay28 (S 0) (S 1) (S 2) (S 3) (S 4) (S 5) (S 6) (S 7)) (k1_pay29 v79 v80 (S 1) v130)) (k1_pay33 (S 0) (S 1) (S 2) (S 3) (S 4) (S 5) (S 6)))
        (k1_pay37 (S 0) (S 1) (S 2) (S 3) (S 5)) (k1_pay38 (S 4) (S 5))) (k1_pay42 (S 0) (S 1) (S 2) (S 7)) (k1_pay43 (S 3) (S 7)))
      (k1_pay47 v9 k (S 0) (S 1) (S 2) (S 3) (S 4) (S 5) (S 6) (S 7) (S 8) w0 (k1_pay41 k (S 0) (S 1) (S 2) (S 3) (S 4) (S 5) (S 6) (S 7) (S 8) (k1_pay36 k (S 0) (S 1) (S 2) (S 3) (S 4) (S 5) (S 6) (S 7) (S 8) (k1_pay32 k (S 0) (S 1) (S 2) (S 3) (S 4) (S 5) (S 6) (S 7) (S 8) w0 (k1_pay28 (S 0) (S 1) (S 2) (S 3) (S 4) (S 5) (S 6) (S 7)) (k1_pay29 v79 v80 (S 1) v130)) (k1_pay33 (S 0) (S 1) (S 2) (S 3) (S 4) (S 5) (S 6)))
        (k1_pay37 (S 0) (S 1) (S 2) (S 3) (S 5)) (k1_pay38 (S 4) (S 5))) (k1_pay42 (S 0) (S 1) (S 2) (S 7)) (k1_pay43 (S 3) (S 7)))
      (ix2 c ⟨(r : ℕ) * 224 + q, by omega⟩)
      = Spec.mixed P cn (B + r) q c + (P c (B + r + 1) (q + 1) * sc (ix2 c 0) + sh (ix2 c 0)) := by
  have hv := sum7_at S k v79 v80 v130 r q (wts S k v79 v80 v130) rfl
  have e7 : k1_pay44 k (S 4) (S 5) (S 6) (S 7) (S 8) (k1_pay42 (S 0) (S 1) (S 2) (S 7)) (k1_pay43 (S 3) (S 7)) = wts S k v79 v80 v130 7 := rfl
  have e8 : k1_pay45 k (S 0) (S 1) (S 2) (S 3) (S 4) (S 5) (S 6) (S 7) (S 8) = wts S k v79 v80 v130 8 := rfl
  have hd := Read.pay46_at (wts S k v79 v80 v130) k r q _ _ _ _ _ _ _ _ _ _ _ _ e7 e8 hv
  subst hw0
  refine (Read.pay48_at P B (wts S k v79 v80 v130) k r q v1 v9 v11 h1 h9 h11 _ _ _ _ _ _ _ _ _ _ _ _ _ sc sh v68 c _ rfl
    (by show ((r : ℕ) * 224 + q) / 224 = r; omega) (by show ((r : ℕ) * 224 + q) % 224 = q; omega) hd cn h68).trans ?_
  simp only [wts_at S k v79 v80 v130 h8, hS, hk]
  rfl

end

/-- The group mean of a channel from the channels' sums. -/
def gmean (s : FVec Ideal S96x1 .f32) (g : FVec Ideal S96x96 .f32) (c : Fin 96) : EReal :=
  ∑ j, g (ix2 c j) * ((1 / 150528 : ℝ) : EReal) * s (ix2 j 0)

/-- The mixed image plus the normalised image, at row `i` and column `q` of the image. -/
def inner (P : Fin 96 → ℕ → ℕ → EReal) (D : Fin 224 → Fin 224 → EReal) (d : EReal) (s1 s2 : FVec Ideal S96x1 .f32) (g : FVec Ideal S96x96 .f32)
    (w b : FVec Ideal S96x1 .f32) (i q : ℕ) (c : Fin 96) : EReal :=
  Spec.mixed P (Spec.conn (Spec.least D) (Spec.greatest D) d) i q c
    + (P c (i + 1) (q + 1) * Spec.scale (gmean s1 g c) (gmean s2 g c) (w (ix2 c 0))
      + (b (ix2 c 0) - gmean s1 g c * Spec.scale (gmean s1 g c) (gmean s2 g c) (w (ix2 c 0))))

set_option maxHeartbeats 1000000 in
/-- What the body leaves at a pixel of its strip. -/
theorem out_at (P : Fin 96 → ℕ → ℕ → EReal) (B : ℕ) (x0 : Vec Ideal S96x16x226 .f32) (x1 x2 : Vec Ideal S1x96x226 .f32) (x3 : Vec Ideal S16x224 .f32)
    (x4 : Vec Ideal S224x224 .f32) (x5 x6 : Vec Ideal S96x1 .f32) (x7 : Vec Ideal S96x96 .f32) (x8 x9 : Vec Ideal S96x1 .f32) (x10 : Vec Ideal S192x96 .f32)
    (x11 : Vec Ideal S192x1 .f32) (x12 : Vec Ideal S96x192 .f32) (x13 : Vec Ideal S96x1 .f32)
    (hx0 : ∀ (c : Fin 96) (r : Fin 16) (q : Fin 226), x0 (ix3 c r q) = P c (B + r + 1) q)
    (hx1 : ∀ (c : Fin 96) (q : Fin 226), x1 (ix3 0 c q) = P c B q)
    (hx2 : ∀ (c : Fin 96) (q : Fin 226), x2 (ix3 0 c q) = P c (B + 17) q) (o : Fin 96) (r : Fin 16) (q : Fin 224) :
    out1_14 (F := Ideal) x0 x1 x2 x3 x4 x5 x6 x7 x8 x9 x10 x11 x12 x13 (ix3 o r q)
      = Spec.ffn (fun k c => x10 (ix2 k c)) (fun k => x11 (ix2 k 0)) (fun o k => x12 (ix2 o k)) (fun o => x13 (ix2 o 0))
          (inner P (fun a b => x4 (ix2 a b)) (x3 (ix2 r q)) x5 x6 x7 x8 x9 (B + r) q) o := by
  have l0 : View.ld x0 r1_0 = x0 := View.ld_unit_zero (by decide) _ x0
  have l1 : View.ld x1 r1_1 = x1 := View.ld_unit_zero (by decide) _ x1
  have l2 : View.ld x2 r1_1 = x2 := View.ld_unit_zero (by decide) _ x2
  have l3 : View.ld x3 r1_5 = x3 := View.ld_unit_zero (by decide) _ x3
  have l4 : View.ld x4 r1_4 = x4 := View.ld_unit_zero (by decide) _ x4
  have l5 : View.ld x5 r1_2 = x5 := View.ld_unit_zero (by decide) _ x5
  have l6 : View.ld x6 r1_2 = x6 := View.ld_unit_zero (by decide) _ x6
  have l7 : View.ld x7 r1_3 = x7 := View.ld_unit_zero (by decide) _ x7
  have l8 : View.ld x8 r1_2 = x8 := View.ld_unit_zero (by decide) _ x8
  have l9 : View.ld x9 r1_2 = x9 := View.ld_unit_zero (by decide) _ x9
  have l10 : View.ld x10 r1_6 = x10 := View.ld_unit_zero (by decide) _ x10
  have l11 : View.ld x11 r1_7 = x11 := View.ld_unit_zero (by decide) _ x11
  have l12 : View.ld x12 r1_8 = x12 := View.ld_unit_zero (by decide) _ x12
  have l13 : View.ld x13 r1_2 = x13 := View.ld_unit_zero (by decide) _ x13
  have h1 : ∀ (c : Fin 96) (r : Fin 16) (q : Fin 226), k1_pay49 (F := Ideal) x0 x1 x2 x3 x4 x5 x6 x7 x8 x9 x10 x11 x12 x13 (ix3 c r q) = P c (B + r + 1) q := fun c r q => by
    unfold k1_pay49; rw [l0]; pointwise [k1_pay2]; exact hx0 c r q
  have h9 : ∀ (c : Fin 96) (r : Fin 16) (q : Fin 226), k1_pay50 (F := Ideal) x0 x1 x2 x3 x4 x5 x6 x7 x8 x9 x10 x11 x12 x13 (ix3 c r q) = P c (B + r) q := fun c r q => by
    unfold k1_pay50; rw [l0, l1]; exact Read.pay3_at P B x0 x1 hx0 hx1 c r q
  have h11 : ∀ (c : Fin 96) (r : Fin 16) (q : Fin 226), k1_pay51 (F := Ideal) x0 x1 x2 x3 x4 x5 x6 x7 x8 x9 x10 x11 x12 x13 (ix3 c r q) = P c (B + r + 2) q := fun c r q => by
    unfold k1_pay51; rw [l0, l2]; exact Read.pay4_at P B x0 x2 hx0 hx2 c r q
  have h77 : ∀ (i : Fin 18) (q : Fin 226), k1_pay53 (F := Ideal) x0 x1 x2 x3 x4 x5 x6 x7 x8 x9 x10 x11 x12 x13 (ix2 i q) = Spec.nrm P (B + i) q := fun i q =>
    Read.pay12_at P B _ _ h9 h11 i q
  have h52 : k1_pay52 (F := Ideal) x0 x1 x2 x3 x4 x5 x6 x7 x8 x9 x10 x11 x12 x13 (ix2 r q) = Spec.kcount (Spec.conn (Spec.least fun a b => x4 (ix2 a b)) (Spec.greatest fun a b => x4 (ix2 a b)) (x3 (ix2 r q))) := by
    unfold k1_pay52; rw [l3, l4]; exact Read.pay10_at r q x4 x3
  unfold out1_14
  rw [View.canon_unit_zero (by decide), l3, l4, l5, l6, l7, l8, l9, l10, l11, l12, l13]
  refine Read.pay1_at r q _ _ x10 x11 x12 x13 o fun c => ?_
  refine (mixed_at ![k1_pay57 (F := Ideal) x0 x1 x2 x3 x4 x5 x6 x7 x8 x9 x10 x11 x12 x13, k1_pay58 (F := Ideal) x0 x1 x2 x3 x4 x5 x6 x7 x8 x9 x10 x11 x12 x13, k1_pay59 (F := Ideal) x0 x1 x2 x3 x4 x5 x6 x7 x8 x9 x10 x11 x12 x13, k1_pay60 (F := Ideal) x0 x1 x2 x3 x4 x5 x6 x7 x8 x9 x10 x11 x12 x13, k1_pay61 (F := Ideal) x0 x1 x2 x3 x4 x5 x6 x7 x8 x9 x10 x11 x12 x13, k1_pay62 (F := Ideal) x0 x1 x2 x3 x4 x5 x6 x7 x8 x9 x10 x11 x12 x13, k1_pay63 (F := Ideal) x0 x1 x2 x3 x4 x5 x6 x7 x8 x9 x10 x11 x12 x13, k1_pay64 (F := Ideal) x0 x1 x2 x3 x4 x5 x6 x7 x8 x9 x10 x11 x12 x13, k1_pay66 (F := Ideal) x0 x1 x2 x3 x4 x5 x6 x7 x8 x9 x10 x11 x12 x13]
    (k1_pay52 (F := Ideal) x0 x1 x2 x3 x4 x5 x6 x7 x8 x9 x10 x11 x12 x13) (k1_pay55 (F := Ideal) x0 x1 x2 x3 x4 x5 x6 x7 x8 x9 x10 x11 x12 x13) (k1_pay56 (F := Ideal) x0 x1 x2 x3 x4 x5 x6 x7 x8 x9 x10 x11 x12 x13) (k1_pay65 (F := Ideal) x0 x1 x2 x3 x4 x5 x6 x7 x8 x9 x10 x11 x12 x13) P B
    (k1_pay49 (F := Ideal) x0 x1 x2 x3 x4 x5 x6 x7 x8 x9 x10 x11 x12 x13) (k1_pay50 (F := Ideal) x0 x1 x2 x3 x4 x5 x6 x7 x8 x9 x10 x11 x12 x13) (k1_pay51 (F := Ideal) x0 x1 x2 x3 x4 x5 x6 x7 x8 x9 x10 x11 x12 x13) h1 h9 h11 (fun d r q => ?_) rfl
    (k1_pay7 x5 x6 x7 x8) (k1_pay8 x5 x6 x7 x8 x9) (k1_pay11 x4 x3) (k1_pay67 (F := Ideal) x0 x1 x2 x3 x4 x5 x6 x7 x8 x9 x10 x11 x12 x13) rfl c r q _ h52 (Read.pay11_at r q x4 x3)).trans ?_
  · match d with
    | ⟨0, _⟩ => exact Read.sim0_at P B _ _ _ h1 h9 h77 r q
    | ⟨1, _⟩ => exact Read.sim1_at P B _ _ _ h1 h9 h77 r q
    | ⟨2, _⟩ => exact Read.sim2_at P B _ _ _ h1 h9 h77 r q
    | ⟨3, _⟩ => exact Read.sim3_at P B _ _ h1 h77 r q
    | ⟨4, _⟩ => exact Read.sim4_at P B _ _ h1 h77 r q
    | ⟨5, _⟩ => exact Read.sim5_at P B _ _ h1 h77 r q
    | ⟨6, _⟩ => exact Read.sim6_at P B _ _ _ h1 h11 h77 r q
    | ⟨7, _⟩ => exact Read.sim7_at P B _ _ _ h1 h11 h77 r q
    | ⟨8, _⟩ => exact Read.sim8_at P B _ _ _ h1 h11 h77 r q
  · rw [Read.pay8_at, Read.pay7_at]
    rfl

end Cert.KernelIdeal.Out1
-- ==== Proof.K1Val.lean ====
/-
  The kernel's result, at coordinates.
-/
module

public import proofs.«01_k».proof.Proof.HostVal
public import proofs.«01_k».proof.Proof.K0Val
public import proofs.«01_k».proof.Proof.K1Out

@[expose] public section

set_option maxRecDepth 16384

noncomputable section

open Idealize.ShloMosaic Idealize.ShloMosaic.TcCoe Idealize.ShloMosaic.Pipeline
open Cert.KernelIdeal Cert.KernelIdeal.Gen Cert.KernelIdeal.Run

namespace Cert.KernelIdeal.Val1

section
variable (V : (c : Dev nD) → (b : Ref sig .tc) → Buf (Elt Ideal) ((c : Thread nD τ).loc b)) (c : Dev nD)

theorem idx1 : ∀ t : Fin cfg1.N, win1_0.index t = ![0, t.val, 0] ∧ win1_1.index t = ![t.val, 0, 0] ∧ win1_2.index t = ![t.val, 0, 0] ∧
    win1_3.index t = ![t.val, 0] ∧ win1_4.index t = ![0, 0] ∧ win1_5.index t = ![0, 0] ∧ win1_6.index t = ![0, 0] ∧ win1_7.index t = ![0, 0] ∧
    win1_8.index t = ![0, 0] ∧ win1_9.index t = ![0, 0] ∧ win1_10.index t = ![0, 0] ∧ win1_11.index t = ![0, 0] ∧ win1_12.index t = ![0, 0] ∧
    win1_13.index t = ![0, 0] ∧ win1_14.index t = ![0, t.val, 0] :=
  (by decide +kernel : ∀ t : Fin grid1.N, _)

/-- A point is below fourteen. -/
theorem lt14 (t : Fin cfg1.N) : t.val < 14 := lt_of_lt_of_eq t.isLt (show cfg1.N = 14 from N_1)

theorem blk_0 (t : Fin cfg1.N) (ch : Fin 96) (r : Fin 16) (q : Fin 226) :
    iblk1 V c 0 t (ix3 ch r q) = V c main_v1 (ix3 ch ⟨t.val * 16 + r.val, by have := lt14 t; omega⟩ q) := by
  obtain ⟨e, -⟩ := idx1 t
  blk_ext [iblk1, e]

theorem blk_1 (t : Fin cfg1.N) (ch : Fin 96) (q : Fin 226) : iblk1 V c 1 t (ix3 0 ch q) = V c main_v5 (ix3 ⟨t.val, lt14 t⟩ ch q) := by
  obtain ⟨-, e, -⟩ := idx1 t
  blk_ext [iblk1, e]

theorem blk_2 (t : Fin cfg1.N) (ch : Fin 96) (q : Fin 226) : iblk1 V c 2 t (ix3 0 ch q) = V c main_v8 (ix3 ⟨t.val, lt14 t⟩ ch q) := by
  obtain ⟨-, -, e, -⟩ := idx1 t
  blk_ext [iblk1, e]

theorem blk_3 (t : Fin cfg1.N) (r : Fin 16) (q : Fin 224) :
    iblk1 V c 3 t (ix2 r q) = V c main_v9_0 (ix2 ⟨t.val * 16 + r.val, by have := lt14 t; omega⟩ q) := by
  obtain ⟨-, -, -, e, -⟩ := idx1 t
  blk_ext [iblk1, e]

theorem blk_4 (t : Fin cfg1.N) (i : Fin 224) (j : Fin 224) : iblk1 V c 4 t (ix2 i j) = V c main_v9_0 (ix2 i j) := by
  obtain ⟨-, -, -, -, e, -⟩ := idx1 t
  blk_ext [iblk1, e]

theorem blk_5 (t : Fin cfg1.N) (i : Fin 96) (j : Fin 1) : iblk1 V c 5 t (ix2 i j) = V c main_v9_1 (ix2 i j) := by
  obtain ⟨-, -, -, -, -, e, -⟩ := idx1 t
  blk_ext [iblk1, e]

theorem blk_6 (t : Fin cfg1.N) (i : Fin 96) (j : Fin 1) : iblk1 V c 6 t (ix2 i j) = V c main_v9_2 (ix2 i j) := by
  obtain ⟨-, -, -, -, -, -, e, -⟩ := idx1 t
  blk_ext [iblk1, e]

theorem blk_7 (t : Fin cfg1.N) (i : Fin 96) (j : Fin 96) : iblk1 V c 7 t (ix2 i j) = V c main_cst_1 (ix2 i j) := by
  obtain ⟨-, -, -, -, -, -, -, e, -⟩ := idx1 t
  blk_ext [iblk1, e]

theorem blk_8 (t : Fin cfg1.N) (i : Fin 96) (j : Fin 1) : iblk1 V c 8 t (ix2 i j) = V c main_v10 (ix2 i j) := by
  obtain ⟨-, -, -, -, -, -, -, -, e, -⟩ := idx1 t
  blk_ext [iblk1, e]

theorem blk_9 (t : Fin cfg1.N) (i : Fin 96) (j : Fin 1) : iblk1 V c 9 t (ix2 i j) = V c main_v11 (ix2 i j) := by
  obtain ⟨-, -, -, -, -, -, -, -, -, e, -⟩ := idx1 t
  blk_ext [iblk1, e]

theorem blk_10 (t : Fin cfg1.N) (i : Fin 192) (j : Fin 96) : iblk1 V c 10 t (ix2 i j) = V c main_arg3 (ix2 i j) := by
  obtain ⟨-, -, -, -, -, -, -, -, -, -, e, -⟩ := idx1 t
  blk_ext [iblk1, e]

theorem blk_11 (t : Fin cfg1.N) (i : Fin 192) (j : Fin 1) : iblk1 V c 11 t (ix2 i j) = V c main_v12 (ix2 i j) := by
  obtain ⟨-, -, -, -, -, -, -, -, -, -, -, e, -⟩ := idx1 t
  blk_ext [iblk1, e]

theorem blk_12 (t : Fin cfg1.N) (i : Fin 96) (j : Fin 192) : iblk1 V c 12 t (ix2 i j) = V c main_arg5 (ix2 i j) := by
  obtain ⟨-, -, -, -, -, -, -, -, -, -, -, -, e, -⟩ := idx1 t
  blk_ext [iblk1, e]

theorem blk_13 (t : Fin cfg1.N) (i : Fin 96) (j : Fin 1) : iblk1 V c 13 t (ix2 i j) = V c main_v13 (ix2 i j) := by
  obtain ⟨-, -, -, -, -, -, -, -, -, -, -, -, -, e, -⟩ := idx1 t
  blk_ext [iblk1, e]

/-- The call's result at a pixel, from the contents of its inputs. -/
def outv (P : Fin 96 → ℕ → ℕ → EReal) : FVec Ideal S96x224x224 .f32 := fun i =>
  Spec.ffn (fun k c' => V c main_arg3 (ix2 k c')) (fun k => V c main_v12 (ix2 k 0)) (fun o k => V c main_arg5 (ix2 o k)) (fun o => V c main_v13 (ix2 o 0))
    (Out1.inner P (fun a b => V c main_v9_0 (ix2 a b)) (V c main_v9_0 (ix2 (i 1) (i 2))) (V c main_v9_1) (V c main_v9_2) (V c main_cst_1) (V c main_v10) (V c main_v11) (i 1).val (i 2).val) (i 0)

theorem arr14 (P : Fin 96 → ℕ → ℕ → EReal)
    (h0 : ∀ (ch : Fin 96) (i : Fin 224) (q : Fin 226), V c main_v1 (ix3 ch i q) = P ch (i + 1) q)
    (h1 : ∀ (t : Fin 14) (ch : Fin 96) (q : Fin 226), V c main_v5 (ix3 t ch q) = P ch (t * 16) q)
    (h2 : ∀ (t : Fin 14) (ch : Fin 96) (q : Fin 226), V c main_v8 (ix3 t ch q) = P ch (t * 16 + 17) q) :
    (dat1 V c).arrAt 14 cfg1.N = outv V c P := by
  refine (dat1 V c).arrAt_eq_of_covers 14 _ (by decide +kernel) fun t hf y => ?_
  obtain ⟨-, -, -, -, -, -, -, -, -, -, -, -, -, -, e⟩ := idx1 t
  obtain ⟨o, r, q, hy⟩ : ∃ (o : Fin 96) (r : Fin 16) (q : Fin 224), y = ix3 o r q := ⟨y 0, y 1, y 2, eq_ix3 y⟩
  subst hy
  have hr : outv V c P ((win1_14.blk t).view.emb (ix3 o r q)) = outv V c P (ix3 o ⟨t.val * 16 + r.val, by have := lt14 t; omega⟩ q) := by
    blk_ext [e]
  blk_simp
  rw [after1_14]
  have f5 : iblk1 V c 5 t = V c main_v9_1 := funext fun i => (congrArg _ (ix2_eta (n0 := 96) (n1 := 1) i).symm).trans ((blk_5 V c t (i 0) (i 1)).trans (congrArg _ (ix2_eta (n0 := 96) (n1 := 1) i)))
  have f6 : iblk1 V c 6 t = V c main_v9_2 := funext fun i => (congrArg _ (ix2_eta (n0 := 96) (n1 := 1) i).symm).trans ((blk_6 V c t (i 0) (i 1)).trans (congrArg _ (ix2_eta (n0 := 96) (n1 := 1) i)))
  have f7 : iblk1 V c 7 t = V c main_cst_1 := funext fun i => (congrArg _ (ix2_eta (n0 := 96) (n1 := 96) i).symm).trans ((blk_7 V c t (i 0) (i 1)).trans (congrArg _ (ix2_eta (n0 := 96) (n1 := 96) i)))
  have f8 : iblk1 V c 8 t = V c main_v10 := funext fun i => (congrArg _ (ix2_eta (n0 := 96) (n1 := 1) i).symm).trans ((blk_8 V c t (i 0) (i 1)).trans (congrArg _ (ix2_eta (n0 := 96) (n1 := 1) i)))
  have f9 : iblk1 V c 9 t = V c main_v11 := funext fun i => (congrArg _ (ix2_eta (n0 := 96) (n1 := 1) i).symm).trans ((blk_9 V c t (i 0) (i 1)).trans (congrArg _ (ix2_eta (n0 := 96) (n1 := 1) i)))
  refine (Out1.out_at P (t.val * 16) (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t)
    (fun ch r q => (blk_0 V c t ch r q).trans (h0 ch _ q)) (fun ch q => (blk_1 V c t ch q).trans (h1 _ ch q)) (fun ch q => (blk_2 V c t ch q).trans (h2 _ ch q)) o r q).trans (Eq.trans ?_ hr.symm)
  simp only [blk_3, blk_4, blk_10, blk_11, blk_12, blk_13, f5, f6, f7, f8, f9]
  rfl

/-- The same with the contents of the inputs named. -/
theorem outv_of (P : Fin 96 → ℕ → ℕ → EReal) (o : Fin 96) (i j : Fin 224) (D : Fin 224 → Fin 224 → EReal) (s1 s2 : Fin 96 → EReal) (g : Fin 96 → Fin 96 → EReal)
    (w b : Fin 96 → EReal) (w1 : Fin 192 → Fin 96 → EReal) (b1 : Fin 192 → EReal) (w2 : Fin 96 → Fin 192 → EReal) (b2 : Fin 96 → EReal)
    (hD : (fun i j : Fin 224 => V c main_v9_0 (ix2 i j)) = D) (h1 : (fun k : Fin 96 => V c main_v9_1 (ix2 k 0)) = s1) (h2 : (fun k : Fin 96 => V c main_v9_2 (ix2 k 0)) = s2)
    (hg : (fun i j : Fin 96 => V c main_cst_1 (ix2 i j)) = g) (hw : (fun k : Fin 96 => V c main_v10 (ix2 k 0)) = w) (hb : (fun k : Fin 96 => V c main_v11 (ix2 k 0)) = b)
    (hw1 : (fun (k : Fin 192) (l : Fin 96) => V c main_arg3 (ix2 k l)) = w1) (hb1 : (fun k : Fin 192 => V c main_v12 (ix2 k 0)) = b1)
    (hw2 : (fun (k : Fin 96) (l : Fin 192) => V c main_arg5 (ix2 k l)) = w2) (hb2 : (fun k : Fin 96 => V c main_v13 (ix2 k 0)) = b2) :
    outv V c P (ix3 o i j) = Spec.ffn w1 b1 w2 b2 (fun ch => Spec.mixed P (Spec.conn (Spec.least D) (Spec.greatest D) (D i j)) i j ch
      + (P ch (i + 1) (j + 1) * Spec.scale (∑ k, g ch k * ((1 / 150528 : ℝ) : EReal) * s1 k) (∑ k, g ch k * ((1 / 150528 : ℝ) : EReal) * s2 k) (w ch)
        + (b ch - (∑ k, g ch k * ((1 / 150528 : ℝ) : EReal) * s1 k)
          * Spec.scale (∑ k, g ch k * ((1 / 150528 : ℝ) : EReal) * s1 k) (∑ k, g ch k * ((1 / 150528 : ℝ) : EReal) * s2 k) (w ch)))) o := by
  subst hD h1 h2 hg hw hb hw1 hb1 hw2 hb2
  rfl

end

/-! ## The whole kernel -/

variable (m : (ℓ : Loc nD τ sig) → Buf (Elt Ideal) ℓ) (ρ : Dev nD → PrngReg) (c : Dev nD)

/-- The first resampling table. -/
def tab0 (i j : Fin 224) : EReal := FloatOps.ofBits (F := Ideal) .f32 (lit0 (S224x224.rowMajor (ix2 i j)))
/-- The second resampling table. -/
def tab1 (i j : Fin 224) : EReal := FloatOps.ofBits (F := Ideal) .f32 (lit1 (S224x224.rowMajor (ix2 i j)))
/-- The table of the groups. -/
def tab2 (i j : Fin 96) : EReal := FloatOps.ofBits (F := Ideal) .f32 (lit2 (S96x96.rowMajor (ix2 i j)))

/-- The difference map. -/
def diff (X : Fin 96 → Fin 224 → Fin 224 → EReal) (a b : Fin 224) : EReal := ∑ ch : Fin 96, Spec.gap tab0 tab1 (X ch) a b

/-- The mean over a channel's group of what each channel sums to. -/
def gmean (s : Fin 96 → EReal) (ch : Fin 96) : EReal := ∑ j, tab2 ch j * ((1 / 150528 : ℝ) : EReal) * s j

/-- The kernel's result from its arguments. -/
def result (X : Fin 96 → Fin 224 → Fin 224 → EReal) (w b : Fin 96 → EReal) (w1 : Fin 192 → Fin 96 → EReal) (b1 : Fin 192 → EReal) (w2 : Fin 96 → Fin 192 → EReal) (b2 : Fin 96 → EReal)
    (o : Fin 96) (i j : Fin 224) : EReal :=
  Spec.ffn w1 b1 w2 b2 (fun ch => Spec.mixed (Spec.pd X) (Spec.conn (Spec.least (diff X)) (Spec.greatest (diff X)) (diff X i j)) i j ch
    + (Spec.pd X ch (i + 1) (j + 1) * Spec.scale (gmean (fun k => ∑ a, ∑ b, X k a b) ch) (gmean (fun k => ∑ a, ∑ b, X k a b * X k a b) ch) (w ch)
      + (b ch - gmean (fun k => ∑ a, ∑ b, X k a b) ch
          * Spec.scale (gmean (fun k => ∑ a, ∑ b, X k a b) ch) (gmean (fun k => ∑ a, ∑ b, X k a b * X k a b) ch) (w ch)))) o

theorem img_eq (ch : Fin 96) (i j : Fin 224) : Val0.img (V3 m ρ) c (ix3 ch i j) = Host.X m c ch i j := by
  have h : W3 m ρ c (Proc.devRef .tc main_v0) = W1 m ρ c (Proc.devRef .tc main_v0) :=
    (W3_of m ρ c _ (by decide)).trans (W2_of m ρ c _ (by decide))
  exact (congrFun h _).trans (Host.v0_at m ρ c ch i j)

theorem dmap_at (i j : Fin 224) : Val0.dmap (V3 m ρ) c (ix2 i j) = diff (Host.X m c) i j := by
  have e0 : ∀ i j : Fin 224, V3 m ρ c main_cst (ix2 i j) = tab0 i j := fun i j => congrFun (Host.cst_at m ρ c) (ix2 i j)
  have e1 : ∀ i j : Fin 224, V3 m ρ c main_cst_0 (ix2 i j) = tab1 i j := fun i j => congrFun (Host.cst0_at m ρ c) (ix2 i j)
  have e : Val0.dmap (V3 m ρ) c (ix2 i j) = ∑ ch : Fin 96, Spec.gap (fun i j => V3 m ρ c main_cst (ix2 i j)) (fun i j => V3 m ρ c main_cst_0 (ix2 i j))
    (fun i j => Val0.img (V3 m ρ) c (ix3 ch i j)) i j := rfl
  rw [e]
  unfold diff
  refine Finset.sum_congr rfl fun ch _ => ?_
  rw [funext₂ e0, funext₂ e1, funext₂ (img_eq m ρ c ch)]

/-- The difference map as the second call finds it. -/
theorem v90 (i j : Fin 224) : V5 m ρ c main_v9_0 (ix2 i j) = diff (Host.X m c) i j := by
  have h : W5 m ρ c (Proc.devRef .tc main_v9_0) = Val0.dmap (V3 m ρ) c :=
    (W5_of m ρ c _ (by decide)).trans ((W4_arr m ρ c 3).trans (Val0.arr3 (V3 m ρ) c))
  exact (congrFun h _).trans (dmap_at m ρ c i j)

/-- The channel sums as the second call finds them. -/
theorem v91 (k : Fin 96) : V5 m ρ c main_v9_1 (ix2 k 0) = (∑ a, ∑ b, Host.X m c k a b : EReal) := by
  have h : W5 m ρ c (Proc.devRef .tc main_v9_1) = Val0.sums (V3 m ρ) c :=
    (W5_of m ρ c _ (by decide)).trans ((W4_arr m ρ c 4).trans (Val0.arr4 (V3 m ρ) c))
  refine (congrFun h _).trans ?_
  have e : Val0.sums (V3 m ρ) c (ix2 k 0) = ∑ a, ∑ b, Val0.img (V3 m ρ) c (ix3 k a b) := rfl
  rw [e]
  simp only [img_eq]

/-- The channel sums of squares as the second call finds them. -/
theorem v92 (k : Fin 96) : V5 m ρ c main_v9_2 (ix2 k 0) = (∑ a, ∑ b, Host.X m c k a b * Host.X m c k a b : EReal) := by
  have h : W5 m ρ c (Proc.devRef .tc main_v9_2) = Val0.squares (V3 m ρ) c :=
    (W5_of m ρ c _ (by decide)).trans ((W4_arr m ρ c 5).trans (Val0.arr5 (V3 m ρ) c))
  refine (congrFun h _).trans ?_
  have e : Val0.squares (V3 m ρ) c (ix2 k 0) = ∑ a, ∑ b, Val0.img (V3 m ρ) c (ix3 k a b) * Val0.img (V3 m ρ) c (ix3 k a b) := rfl
  rw [e]
  simp only [img_eq]

/-- A reference neither call nor the host between them writes keeps its contents. -/
theorem W5_eq3 (r : Ref sig .tc) (h1 : r ∉ hostOps1_W) (h2 : ∀ w : Fin cfg0.W, Pipeline.arrRef spec0 w = r → (cfg0.win w).isOut = false) :
    V5 m ρ c r = V3 m ρ c r := (W5_of m ρ c r h1).trans (W4_of m ρ c r h2)

theorem arg_eq (r : Ref sig .tc) (h : r ∈ argRefs) : V5 m ρ c r = m ((c : Thread nD τ).loc r) := W5_args m ρ c r h

/-- The kernel's result at a pixel. -/
theorem value (o : Fin 96) (i j : Fin 224) : (W7 m ρ c (Proc.devRef .tc main_v15) : FVec Ideal S1x96x224x224 .f32) (ix4 0 o i j)
    = result (Host.X m c) (fun k => (m ((c : Thread nD τ).loc main_arg1) : FVec Ideal S96 .f32) (ix1 k)) (fun k => (m ((c : Thread nD τ).loc main_arg2) : FVec Ideal S96 .f32) (ix1 k))
      (fun k l => (m ((c : Thread nD τ).loc main_arg3) : FVec Ideal S192x96 .f32) (ix2 k l)) (fun k => (m ((c : Thread nD τ).loc main_arg4) : FVec Ideal S192 .f32) (ix1 k))
      (fun k l => (m ((c : Thread nD τ).loc main_arg5) : FVec Ideal S96x192 .f32) (ix2 k l)) (fun k => (m ((c : Thread nD τ).loc main_arg6) : FVec Ideal S96 .f32) (ix1 k)) o i j := by
  rw [Host.v15_at]
  have h14 := (W6_arr m ρ c 14).trans (arr14 (V5 m ρ) c (Spec.pd (Host.X m c)) (fun ch i q => ?_) (fun t ch q => ?_) (fun t ch q => ?_))
  · refine (congrFun h14 _).trans ?_
    have e2 : ∀ i j : Fin 96, V5 m ρ c main_cst_1 (ix2 i j) = tab2 i j := fun i j =>
      (congrFun (W5_eq3 m ρ c main_cst_1 (by decide) (by decide +kernel)) _).trans (congrFun (Host.cst1_at m ρ c) (ix2 i j))
    have e10 : ∀ i : Fin 96, V5 m ρ c main_v10 (ix2 i 0) = _ := Host.v10_at m ρ c
    have e11 : ∀ i : Fin 96, V5 m ρ c main_v11 (ix2 i 0) = _ := Host.v11_at m ρ c
    have e12 : ∀ i : Fin 192, V5 m ρ c main_v12 (ix2 i 0) = _ := Host.v12_at m ρ c
    have e13 : ∀ i : Fin 96, V5 m ρ c main_v13 (ix2 i 0) = _ := Host.v13_at m ρ c
    have e3 : ∀ (i : Fin 192) (j : Fin 96), V5 m ρ c main_arg3 (ix2 i j) = m ((c : Thread nD τ).loc main_arg3) (ix2 i j) := fun i j =>
      congrFun (arg_eq m ρ c main_arg3 (by decide)) _
    have e5 : ∀ (i : Fin 96) (j : Fin 192), V5 m ρ c main_arg5 (ix2 i j) = m ((c : Thread nD τ).loc main_arg5) (ix2 i j) := fun i j =>
      congrFun (arg_eq m ρ c main_arg5 (by decide)) _
    exact outv_of (V5 m ρ) c (Spec.pd (Host.X m c)) o i j _ _ _ _ _ _ _ _ _ _ (funext₂ (v90 m ρ c)) (funext (v91 m ρ c)) (funext (v92 m ρ c)) (funext₂ e2)
      (funext e10) (funext e11) (funext₂ e3) (funext e12) (funext₂ e5) (funext e13)
  · exact (congrFun (W5_eq3 m ρ c main_v1 (by decide) (by decide +kernel)) _).trans ((congrFun ((W3_of m ρ c main_v1 (by decide)).trans (Host.v1_eq m ρ c)) _).trans (Host.padded_at m c ch i q))
  · exact (congrFun (W5_eq3 m ρ c main_v5 (by decide) (by decide +kernel)) _).trans (Host.v5_at m ρ c t ch q)
  · exact (congrFun (W5_eq3 m ρ c main_v8 (by decide) (by decide +kernel)) _).trans (Host.v8_at m ρ c t ch q)

end Cert.KernelIdeal.Val1
-- ==== Proof.Tab0.lean ====
/- The resampling matrix of the kernel, entry by entry. -/
module

public import proofs.«01_k».proof.Proof.Gen.KernelIdeal
public import proofs.«01_k».proof.Proof.TabRows

@[expose] public section

set_option maxRecDepth 16384

open Idealize.ShloMosaic Idealize.ShloMosaic.TcCoe
open Cert.KernelIdeal Cert.KernelIdeal.Gen

namespace Cert.KernelIdeal.Tab

/-- The word at `(a, y)`: half the weight of entry `y / 2` of the smaller grid at entry `a`. -/
def tab0w (a y : ℕ) : ℕ := Spec.word8 (Spec.up4 (y / 2) a)

theorem tab0_from0 : Spec.rowsAre lit0t tab0w 224 0 28 = true := by decide +kernel

theorem tab0_from28 : Spec.rowsAre lit0t tab0w 224 28 28 = true := by decide +kernel

theorem tab0_from56 : Spec.rowsAre lit0t tab0w 224 56 28 = true := by decide +kernel

theorem tab0_from84 : Spec.rowsAre lit0t tab0w 224 84 28 = true := by decide +kernel

theorem tab0_from112 : Spec.rowsAre lit0t tab0w 224 112 28 = true := by decide +kernel

theorem tab0_from140 : Spec.rowsAre lit0t tab0w 224 140 28 = true := by decide +kernel

theorem tab0_from168 : Spec.rowsAre lit0t tab0w 224 168 28 = true := by decide +kernel

theorem tab0_from196 : Spec.rowsAre lit0t tab0w 224 196 28 = true := by decide +kernel

/-- The table's entry at `(a, y)`. -/
theorem tab0_at (a y : ℕ) (ha : a < 224) (hy : y < 224) : lit0t (a * 224 + y) = BitVec.ofNat 32 (tab0w a y) := by
  by_cases h28 : a < 28
  · exact Spec.rowsAre_spec _ _ _ _ _ tab0_from0 a y (by omega) (by omega) hy
  by_cases h56 : a < 56
  · exact Spec.rowsAre_spec _ _ _ _ _ tab0_from28 a y (by omega) (by omega) hy
  by_cases h84 : a < 84
  · exact Spec.rowsAre_spec _ _ _ _ _ tab0_from56 a y (by omega) (by omega) hy
  by_cases h112 : a < 112
  · exact Spec.rowsAre_spec _ _ _ _ _ tab0_from84 a y (by omega) (by omega) hy
  by_cases h140 : a < 140
  · exact Spec.rowsAre_spec _ _ _ _ _ tab0_from112 a y (by omega) (by omega) hy
  by_cases h168 : a < 168
  · exact Spec.rowsAre_spec _ _ _ _ _ tab0_from140 a y (by omega) (by omega) hy
  by_cases h196 : a < 196
  · exact Spec.rowsAre_spec _ _ _ _ _ tab0_from168 a y (by omega) (by omega) hy
  exact Spec.rowsAre_spec _ _ _ _ _ tab0_from196 a y (by omega) (by omega) hy

end Cert.KernelIdeal.Tab
-- ==== Proof.Tab1.lean ====
/- The transposed resampling matrix of the kernel, entry by entry. -/
module

public import proofs.«01_k».proof.Proof.Gen.KernelIdeal
public import proofs.«01_k».proof.Proof.TabRows
public import proofs.«01_k».proof.Proof.Tab0

@[expose] public section

set_option maxRecDepth 16384

open Idealize.ShloMosaic Idealize.ShloMosaic.TcCoe
open Cert.KernelIdeal Cert.KernelIdeal.Gen

namespace Cert.KernelIdeal.Tab

/-- The word at `(a, y)`: half the weight of entry `a / 2` of the smaller grid at entry `y`. -/
def tab1w (a y : ℕ) : ℕ := Spec.word8 (Spec.up4 (a / 2) y)

theorem tab1_from0 : Spec.rowsAre lit1t tab1w 224 0 28 = true := by decide +kernel

theorem tab1_from28 : Spec.rowsAre lit1t tab1w 224 28 28 = true := by decide +kernel

theorem tab1_from56 : Spec.rowsAre lit1t tab1w 224 56 28 = true := by decide +kernel

theorem tab1_from84 : Spec.rowsAre lit1t tab1w 224 84 28 = true := by decide +kernel

theorem tab1_from112 : Spec.rowsAre lit1t tab1w 224 112 28 = true := by decide +kernel

theorem tab1_from140 : Spec.rowsAre lit1t tab1w 224 140 28 = true := by decide +kernel

theorem tab1_from168 : Spec.rowsAre lit1t tab1w 224 168 28 = true := by decide +kernel

theorem tab1_from196 : Spec.rowsAre lit1t tab1w 224 196 28 = true := by decide +kernel

/-- The table's entry at `(a, y)`. -/
theorem tab1_at (a y : ℕ) (ha : a < 224) (hy : y < 224) : lit1t (a * 224 + y) = BitVec.ofNat 32 (tab1w a y) := by
  by_cases h28 : a < 28
  · exact Spec.rowsAre_spec _ _ _ _ _ tab1_from0 a y (by omega) (by omega) hy
  by_cases h56 : a < 56
  · exact Spec.rowsAre_spec _ _ _ _ _ tab1_from28 a y (by omega) (by omega) hy
  by_cases h84 : a < 84
  · exact Spec.rowsAre_spec _ _ _ _ _ tab1_from56 a y (by omega) (by omega) hy
  by_cases h112 : a < 112
  · exact Spec.rowsAre_spec _ _ _ _ _ tab1_from84 a y (by omega) (by omega) hy
  by_cases h140 : a < 140
  · exact Spec.rowsAre_spec _ _ _ _ _ tab1_from112 a y (by omega) (by omega) hy
  by_cases h168 : a < 168
  · exact Spec.rowsAre_spec _ _ _ _ _ tab1_from140 a y (by omega) (by omega) hy
  by_cases h196 : a < 196
  · exact Spec.rowsAre_spec _ _ _ _ _ tab1_from168 a y (by omega) (by omega) hy
  exact Spec.rowsAre_spec _ _ _ _ _ tab1_from196 a y (by omega) (by omega) hy

end Cert.KernelIdeal.Tab
-- ==== Proof.Tab2.lean ====
/- The table of the channel groups of the kernel, entry by entry. -/
module

public import proofs.«01_k».proof.Proof.Gen.KernelIdeal
public import proofs.«01_k».proof.Proof.TabRows

@[expose] public section

set_option maxRecDepth 16384

open Idealize.ShloMosaic Idealize.ShloMosaic.TcCoe
open Cert.KernelIdeal Cert.KernelIdeal.Gen

namespace Cert.KernelIdeal.Tab

/-- The word at `(a, y)`: one where the channels `a` and `y` lie in one group of three, else zero. -/
def tab2w (a y : ℕ) : ℕ := cond (Nat.beq (a / 3) (y / 3)) 0x3F800000 0

theorem tab2_from0 : Spec.rowsAre lit2t tab2w 96 0 48 = true := by decide +kernel

theorem tab2_from48 : Spec.rowsAre lit2t tab2w 96 48 48 = true := by decide +kernel

/-- The table's entry at `(a, y)`. -/
theorem tab2_at (a y : ℕ) (ha : a < 96) (hy : y < 96) : lit2t (a * 96 + y) = BitVec.ofNat 32 (tab2w a y) := by
  by_cases h48 : a < 48
  · exact Spec.rowsAre_spec _ _ _ _ _ tab2_from0 a y (by omega) (by omega) hy
  exact Spec.rowsAre_spec _ _ _ _ _ tab2_from48 a y (by omega) (by omega) hy

end Cert.KernelIdeal.Tab
-- ==== Proof.KTab.lean ====
/- The kernel's tables as the closed weights, and its difference map and group means in terms of them. -/
module

public import proofs.«01_k».proof.Proof.K1Val
public import proofs.«01_k».proof.Proof.Tab0
public import proofs.«01_k».proof.Proof.Tab1
public import proofs.«01_k».proof.Proof.Tab2
public import proofs.«01_k».proof.Proof.Eighths
public import proofs.«01_k».proof.Proof.NormMath

@[expose] public section

set_option maxRecDepth 16384

noncomputable section

open Idealize.ShloMosaic Idealize.ShloMosaic.TcCoe
open Cert.KernelIdeal Cert.KernelIdeal.Gen

namespace Cert.KernelIdeal.Val1

theorem word8_bits : ∀ n : ℕ, (n = 0 ∨ n = 1 ∨ n = 3 ∨ n = 4) → Ideal.ofBits .f32 (BitVec.ofNat 32 (Spec.word8 n)) = ((n / 8 : ℝ) : EReal) := by
  rintro n (rfl | rfl | rfl | rfl)
  · show Ideal.ofBits .f32 0x00000000#32 = _
    simp
  · show Ideal.ofBits .f32 0x3E000000#32 = _
    simp [Ideal.ofBits, Ideal.ieee, -EReal.coe_mul]; norm_num
  · show Ideal.ofBits .f32 0x3EC00000#32 = _
    simp [Ideal.ofBits, Ideal.ieee, -EReal.coe_mul]; norm_num
  · show Ideal.ofBits .f32 0x3F000000#32 = _
    simp [Ideal.ofBits, Ideal.ieee, -EReal.coe_mul]; norm_num

theorem up4_mem (k a : ℕ) : Spec.up4 k a = 0 ∨ Spec.up4 k a = 1 ∨ Spec.up4 k a = 3 ∨ Spec.up4 k a = 4 := by
  unfold Spec.up4 Spec.tri4
  split_ifs <;> simp

theorem flat224 (a y : Fin 224) : (S224x224.rowMajor (ix2 a y)).val = a.val * 224 + y.val := Shape.rowMajor_val_two (ix2 a y)
theorem flat96 (a y : Fin 96) : (S96x96.rowMajor (ix2 a y)).val = a.val * 96 + y.val := Shape.rowMajor_val_two (ix2 a y)

theorem tab0_eq (a y : Fin 224) : tab0 a y = Spec.half a y := by
  unfold tab0
  rw [show lit0 (S224x224.rowMajor (ix2 a y)) = lit0t (a.val * 224 + y.val) from congrArg lit0t (flat224 a y),
    Tab.tab0_at _ _ a.isLt y.isLt]
  exact word8_bits _ (up4_mem _ _)

theorem tab1_eq (x b : Fin 224) : tab1 x b = Spec.half b x := by
  unfold tab1
  rw [show lit1 (S224x224.rowMajor (ix2 x b)) = lit1t (x.val * 224 + b.val) from congrArg lit1t (flat224 x b),
    Tab.tab1_at _ _ x.isLt b.isLt]
  exact word8_bits _ (up4_mem _ _)

theorem tab2_eq (c j : Fin 96) : tab2 c j = if c.val / 3 = j.val / 3 then (1 : EReal) else 0 := by
  unfold tab2
  rw [show lit2 (S96x96.rowMajor (ix2 c j)) = lit2t (c.val * 96 + j.val) from congrArg lit2t (flat96 c j),
    Tab.tab2_at _ _ c.isLt j.isLt, Tab.tab2w]
  by_cases h : c.val / 3 = j.val / 3
  · rw [if_pos h, h, show Nat.beq (j.val / 3) (j.val / 3) = true from Nat.beq_refl _]
    exact Ideal.ofBits_one_f32
  · rw [if_neg h, show Nat.beq (c.val / 3) (j.val / 3) = false from by
      cases e : Nat.beq (c.val / 3) (j.val / 3)
      · rfl
      · exact absurd (Nat.eq_of_beq_eq_true e) h]
    exact Ideal.ofBits_zero_f32

end Cert.KernelIdeal.Val1
-- ==== Proof.KForm.lean ====
/- The kernel's result as the common function. -/
module

public import proofs.«01_k».proof.Proof.KTab
public import proofs.«01_k».proof.Proof.Common

@[expose] public section

set_option maxRecDepth 16384

noncomputable section

open Idealize.ShloMosaic Idealize.ShloMosaic.TcCoe
open Cert.KernelIdeal Cert.KernelIdeal.Gen

namespace Cert.KernelIdeal.Val1

theorem diff_eq (X : Fin 96 → Fin 224 → Fin 224 → EReal) : diff X = Spec.dm X := by
  funext a b
  unfold diff Spec.dm Spec.gap
  simp only [tab0_eq, tab1_eq]

theorem gmean_eq (s : Fin 96 → EReal) (c : Fin 96) :
    gmean s c = ((1 / 150528 : ℝ) : EReal) * ∑ k : Fin 3, s ⟨c.val / 3 * 3 + k.val, by omega⟩ := by
  unfold gmean
  simp only [tab2_eq]
  exact Spec.group_sum s (1 / 150528) (by norm_num) c

/-- With finite normalisation weights the kernel's result is the common function. -/
theorem result_eq (X : Fin 96 → Fin 224 → Fin 224 → EReal) (w b : Fin 96 → EReal) (hw : ∀ c, ∃ r : ℝ, w c = r)
    (w1 : Fin 192 → Fin 96 → EReal) (b1 : Fin 192 → EReal) (w2 : Fin 96 → Fin 192 → EReal) (b2 : Fin 96 → EReal) (o : Fin 96) (i j : Fin 224) :
    result X w b w1 b1 w2 b2 o i j = Spec.whole X w b w1 b1 w2 b2 o i j := by
  unfold result Spec.whole
  congr 1
  funext ch
  rw [Spec.centred_eq X (w ch) (b ch) (hw ch), Spec.pd_succ]
  simp only [gmean_eq, diff_eq]
  rfl

end Cert.KernelIdeal.Val1
-- ==== Proof.Algebraic.lean ====
/- The kernel and the reference end with equal results. -/
module

public import proofs.«01_k».proof.Defs
public import proofs.«01_k».proof.Proof.Same
public import proofs.«01_k».proof.Proof.KForm

@[expose] public section

set_option maxRecDepth 16384

noncomputable section

namespace Cert.Proof

open Idealize.ShloMosaic Idealize.ShloMosaic.TcCoe Idealize.SL.Sem Idealize.ShloMosaic.StableHlo

instance preFacts : Cert.Pre_gn_weight_finite.Facts := ⟨by decide⟩

/-- A value whose magnitude is below infinity is a real number. -/
theorem real_of_abs (x : EReal) (h : max x (-x) < ⊤) : ∃ r : ℝ, x = r := by
  induction x with
  | bot => simp at h
  | coe r => exact ⟨r, rfl⟩
  | top => simp at h

theorem inf_bits : Ideal.ofBits .f32 0x7F800000#32 = ⊤ := by
  simp [Ideal.ofBits, Ideal.ieee]

theorem real_of_bit (x : EReal) (h : BitVec.ofBool (decide (max x (-x) < Ideal.ofBits .f32 0x7F800000#32)) = 1#1) : ∃ r : ℝ, x = r := by
  refine real_of_abs x ?_
  rw [← inf_bits]
  by_contra hn
  rw [decide_eq_false hn] at h
  exact absurd h (by decide)

/-- Under the precondition each normalisation weight is a real number. -/
theorem weight_real (m : (ℓ : Loc Cert.KernelIdeal.nD Cert.KernelIdeal.τ Cert.KernelIdeal.sig) → Buf (Elt Ideal) ℓ)
    (h : Cert.Pre_KernelIdeal_gn_weight_finite m) (c : Dev Cert.KernelIdeal.nD) (k : Fin 96) :
    ∃ r : ℝ, (m ((c.tc : Thread Cert.KernelIdeal.nD Cert.KernelIdeal.τ).loc Cert.KernelIdeal.main_arg1) : FVec Ideal Cert.KernelIdeal.S96 .f32) (ix1 k) = (r : EReal) :=
  real_of_bit _ (congrFun (h c) (ix1 k))

theorem idx_eta (q : Cert.KernelIdeal.S1x96x224x224.Idx) : q = ix4 0 (q 1) (q 2) (q 3) := by
  funext a
  match a with
  | 0 => exact Subsingleton.elim (α := Fin 1) _ _
  | 1 => rfl
  | 2 => rfl
  | 3 => rfl

/-- Under the precondition, from equal arguments, the kernel and the reference both run and end with equal results. -/
theorem algebraic [Cert.KernelIdeal.Facts] [Cert.ReferenceIdeal.Facts] : Cert.algebraic_KernelIdeal_ReferenceIdeal_pre_gn_weight_finite := by
  intro m g m' g' hpre hag
  refine ⟨fun c => Cert.KernelIdeal.Run.W7 m g c (Proc.devRef .tc Cert.KernelIdeal.main_v15),
    (θ_run Cert.KernelIdeal.defs _ _).mono (fun r h c => h.1 c) (Cert.KernelIdeal.Run.run (F := Ideal) m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6⟩ := hag c
  funext q
  obtain ⟨o, i, j, rfl⟩ : ∃ (o : Fin 96) (i j : Fin 224), q = ix4 0 o i j := ⟨q 1, q 2, q 3, idx_eta q⟩
  refine (Cert.ReferenceIdeal.Read.ffn_at _ _ _ _ _ o i j).trans ?_
  refine (Cert.ReferenceIdeal.Read.whole_eq _ o i j).trans ?_
  refine Eq.trans ?_ (Cert.KernelIdeal.Val1.value m g c o i j).symm
  refine Eq.trans ?_ (Cert.KernelIdeal.Val1.result_eq _ _ _ (weight_real m hpre c) _ _ _ _ o i j).symm
  have hX : Cert.ReferenceIdeal.Read.X (launchContents m' c) = Cert.KernelIdeal.Host.X m c := by
    funext ch a b
    exact congrFun h0 (ix4 0 ch a b)
  rw [hX]
  have e1 : ∀ k : Fin 96, (launchContents m' c (Proc.devRef .tc Cert.ReferenceIdeal.main_arg1) : FVec Ideal Cert.ReferenceIdeal.S96 .f32) (ix1 k)
      = (m ((c.tc : Thread Cert.KernelIdeal.nD Cert.KernelIdeal.τ).loc Cert.KernelIdeal.main_arg1) : FVec Ideal Cert.KernelIdeal.S96 .f32) (ix1 k) := fun k => congrFun h1 _
  have e2 : ∀ k : Fin 96, (launchContents m' c (Proc.devRef .tc Cert.ReferenceIdeal.main_arg2) : FVec Ideal Cert.ReferenceIdeal.S96 .f32) (ix1 k)
      = (m ((c.tc : Thread Cert.KernelIdeal.nD Cert.KernelIdeal.τ).loc Cert.KernelIdeal.main_arg2) : FVec Ideal Cert.KernelIdeal.S96 .f32) (ix1 k) := fun k => congrFun h2 _
  have e3 : ∀ (k : Fin 192) (l : Fin 96), (launchContents m' c (Proc.devRef .tc Cert.ReferenceIdeal.main_arg3) : FVec Ideal Cert.ReferenceIdeal.S192x96 .f32) (ix2 k l)
      = (m ((c.tc : Thread Cert.KernelIdeal.nD Cert.KernelIdeal.τ).loc Cert.KernelIdeal.main_arg3) : FVec Ideal Cert.KernelIdeal.S192x96 .f32) (ix2 k l) := fun k l => congrFun h3 _
  have e4 : ∀ k : Fin 192, (launchContents m' c (Proc.devRef .tc Cert.ReferenceIdeal.main_arg4) : FVec Ideal Cert.ReferenceIdeal.S192 .f32) (ix1 k)
      = (m ((c.tc : Thread Cert.KernelIdeal.nD Cert.KernelIdeal.τ).loc Cert.KernelIdeal.main_arg4) : FVec Ideal Cert.KernelIdeal.S192 .f32) (ix1 k) := fun k => congrFun h4 _
  have e5 : ∀ (k : Fin 96) (l : Fin 192), (launchContents m' c (Proc.devRef .tc Cert.ReferenceIdeal.main_arg5) : FVec Ideal Cert.ReferenceIdeal.S96x192 .f32) (ix2 k l)
      = (m ((c.tc : Thread Cert.KernelIdeal.nD Cert.KernelIdeal.τ).loc Cert.KernelIdeal.main_arg5) : FVec Ideal Cert.KernelIdeal.S96x192 .f32) (ix2 k l) := fun k l => congrFun h5 _
  have e6 : ∀ k : Fin 96, (launchContents m' c (Proc.devRef .tc Cert.ReferenceIdeal.main_arg6) : FVec Ideal Cert.ReferenceIdeal.S96 .f32) (ix1 k)
      = (m ((c.tc : Thread Cert.KernelIdeal.nD Cert.KernelIdeal.τ).loc Cert.KernelIdeal.main_arg6) : FVec Ideal Cert.KernelIdeal.S96 .f32) (ix1 k) := fun k => congrFun h6 _
  simp only [e1, e2, e3, e4, e5, e6]

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments and ends with every counter at zero: it is host operations only and declares
    no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition, which the frame does not need. -/
theorem frame_ri_pre : Cert.quiescent_ReferenceIdeal_pre_gn_weight_finite := fun m ρ _ => frame_ri m ρ trivial

theorem claim : Cert.Claim := ⟨Cert.Kernel.Gen.facts, Cert.KernelIdeal.Gen.facts, Cert.ReferenceIdeal.Gen.facts, preFacts,
  fun m ρ _ => Cert.Kernel.Run.frame m ρ, fun m ρ _ => Cert.KernelIdeal.Run.frame m ρ, fun m ρ _ => Cert.KernelIdeal.Run.frame m ρ,
  frame_ri, frame_ri_pre, IdealRules.named_const.statement _ _ _ _ _ rfl, algebraic⟩

end Cert.Proof

end
